-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "dt_scale" .f32 0x3F6B851E#32 ((258956967416955 / 281474976710656 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v444) = v0 c
          ∧ r.2.mem ((c.tc : Thread Cert.ReferenceIdeal.nD Cert.ReferenceIdeal.τ).loc Cert.ReferenceIdeal.main_v445) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4194304 : Shape := ⟨1, ![4194304]⟩
abbrev S4194304x4 : Shape := ⟨2, ![4194304, 4]⟩
abbrev S4194304x6 : Shape := ⟨2, ![4194304, 6]⟩
abbrev S32768x128 : Shape := ⟨2, ![32768, 128]⟩
abbrev S4x4194304 : Shape := ⟨2, ![4, 4194304]⟩
abbrev S4x32768x128 : Shape := ⟨3, ![4, 32768, 128]⟩
abbrev S6x4194304 : Shape := ⟨2, ![6, 4194304]⟩
abbrev S6x32768x128 : Shape := ⟨3, ![6, 32768, 128]⟩
abbrev S1024x128 : Shape := ⟨2, ![1024, 128]⟩
abbrev S4x1024x128 : Shape := ⟨3, ![4, 1024, 128]⟩
abbrev S6x1024x128 : Shape := ⟨3, ![6, 1024, 128]⟩
abbrev S1x1024x128 : Shape := ⟨3, ![1, 1024, 128]⟩

abbrev nBuf : Space → Nat
  | .hbm => 12
  | .vmem => 10
  | .smem => 0
  | _ => 0

abbrev bufTy : (tb : Table) → Fin (tcTables nBuf tb) → BufTy
  | .hbm, ⟨0, _⟩ => ⟨S4194304, .f32⟩
  | .hbm, ⟨1, _⟩ => ⟨S4194304x4, .f32⟩
  | .hbm, ⟨2, _⟩ => ⟨S4194304x6, .f32⟩
  | .hbm, ⟨3, _⟩ => ⟨S32768x128, .f32⟩
  | .hbm, ⟨4, _⟩ => ⟨S4x4194304, .f32⟩
  | .hbm, ⟨5, _⟩ => ⟨S4x32768x128, .f32⟩
  | .hbm, ⟨6, _⟩ => ⟨S6x4194304, .f32⟩
  | .hbm, ⟨7, _⟩ => ⟨S6x32768x128, .f32⟩
  | .hbm, ⟨8, _⟩ => ⟨S32768x128, .f32⟩
  | .hbm, ⟨9, _⟩ => ⟨S32768x128, .f32⟩
  | .hbm, ⟨10, _⟩ => ⟨S4194304, .f32⟩
  | .hbm, ⟨11, _⟩ => ⟨S4194304, .f32⟩
  | .local _ .vmem, ⟨0, _⟩ => ⟨S1024x128, .f32⟩
  | .local _ .vmem, ⟨1, _⟩ => ⟨S1024x128, .f32⟩
  | .local _ .vmem, ⟨2, _⟩ => ⟨S4x1024x128, .f32⟩
  | .local _ .vmem, ⟨3, _⟩ => ⟨S4x1024x128, .f32⟩
  | .local _ .vmem, ⟨4, _⟩ => ⟨S6x1024x128, .f32⟩
  | .local _ .vmem, ⟨5, _⟩ => ⟨S6x1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "dt_scale" => some ((258956967416955 / 281474976710656 : ℝ) : EReal)
  | _ => none
-- ==== ReferenceIdeal.lean ====
abbrev S4194304 : Shape := ⟨1, ![4194304]⟩
abbrev S4194304x4 : Shape := ⟨2, ![4194304, 4]⟩
abbrev S4194304x6 : Shape := ⟨2, ![4194304, 6]⟩
abbrev S_ : Shape := ⟨0, ![]⟩
abbrev S4194304x1 : Shape := ⟨2, ![4194304, 1]⟩
abbrev S4194304x12 : Shape := ⟨2, ![4194304, 12]⟩
abbrev S4194304x13 : Shape := ⟨2, ![4194304, 13]⟩
abbrev S4194304x10 : Shape := ⟨2, ![4194304, 10]⟩
abbrev S4194304x11 : Shape := ⟨2, ![4194304, 11]⟩
abbrev S4194304x9 : Shape := ⟨2, ![4194304, 9]⟩
abbrev S4194304x2 : Shape := ⟨2, ![4194304, 2]⟩
abbrev S4194304x8 : Shape := ⟨2, ![4194304, 8]⟩
abbrev S4194304x3 : Shape := ⟨2, ![4194304, 3]⟩
abbrev S1 : Shape := ⟨1, ![1]⟩
abbrev S4194304x1x1 : Shape := ⟨3, ![4194304, 1, 1]⟩
abbrev S1x1x1 : Shape := ⟨3, ![1, 1, 1]⟩

abbrev nBuf : Space → Nat
  | .hbm => 840
  | .vmem => 0
  | .smem => 0
  | _ => 0

abbrev hbmTy0_0 (i : Nat) : BufTy := match i % 128 with
  | 0 => ⟨S4194304, .f32⟩
  | 1 => ⟨S4194304x4, .f32⟩
  | 2 => ⟨S4194304x6, .f32⟩
  | 3 => ⟨S_, .f32⟩
  | 4 => ⟨S4194304, .f32⟩
  | 5 => ⟨S4194304, .i1⟩
  | 6 => ⟨S_, .f32⟩
  | 7 => ⟨S4194304, .f32⟩
  | 8 => ⟨S4194304, .i1⟩
  | 9 => ⟨S4194304, .i1⟩
  | 10 => ⟨S4194304, .i1⟩
  | 11 => ⟨S_, .f32⟩
  | 12 => ⟨S4194304, .f32⟩
  | 13 => ⟨S_, .f32⟩
  | 14 => ⟨S4194304, .f32⟩
  | 15 => ⟨S4194304, .f32⟩
  | 16 => ⟨S4194304x1, .f32⟩
  | 17 => ⟨S4194304x4, .f32⟩
  | 18 => ⟨S4194304x4, .f32⟩
  | 19 => ⟨S4194304x4, .f32⟩
  | 20 => ⟨S_, .f32⟩
  | 21 => ⟨S4194304, .f32⟩
  | 22 => ⟨S4194304x1, .f32⟩
  | 23 => ⟨S4194304x4, .f32⟩
  | 24 => ⟨S4194304x4, .f32⟩
  | 25 => ⟨S_, .f32⟩
  | 26 => ⟨S4194304x4, .f32⟩
  | 27 => ⟨S4194304x4, .f32⟩
  | 28 => ⟨S_, .f32⟩
  | 29 => ⟨S4194304x4, .f32⟩
  | 30 => ⟨S4194304x4, .f32⟩
  | 31 => ⟨S_, .f32⟩
  | 32 => ⟨S4194304x4, .f32⟩
  | 33 => ⟨S4194304x4, .f32⟩
  | 34 => ⟨S_, .f32⟩
  | 35 => ⟨S_, .f32⟩
  | 36 => ⟨S4194304x12, .f32⟩
  | 37 => ⟨S_, .f32⟩
  | 38 => ⟨S_, .f32⟩
  | 39 => ⟨S4194304x12, .f32⟩
  | 40 => ⟨S_, .f32⟩
  | 41 => ⟨S_, .f32⟩
  | 42 => ⟨S4194304x13, .f32⟩
  | 43 => ⟨S_, .f32⟩
  | 44 => ⟨S4194304x13, .f32⟩
  | 45 => ⟨S4194304x13, .f32⟩
  | 46 => ⟨S_, .f32⟩
  | 47 => ⟨S4194304, .f32⟩
  | 48 => ⟨S_, .f32⟩
  | 49 => ⟨S4194304, .f32⟩
  | 50 => ⟨S4194304, .f32⟩
  | 51 => ⟨S4194304x1, .f32⟩
  | 52 => ⟨S4194304x6, .f32⟩
  | 53 => ⟨S4194304x6, .f32⟩
  | 54 => ⟨S4194304x6, .f32⟩
  | 55 => ⟨S_, .f32⟩
  | 56 => ⟨S4194304, .f32⟩
  | 57 => ⟨S4194304x1, .f32⟩
  | 58 => ⟨S4194304x6, .f32⟩
  | 59 => ⟨S4194304x6, .f32⟩
  | 60 => ⟨S_, .f32⟩
  | 61 => ⟨S4194304x6, .f32⟩
  | 62 => ⟨S4194304x6, .f32⟩
  | 63 => ⟨S_, .f32⟩
  | 64 => ⟨S4194304x6, .f32⟩
  | 65 => ⟨S4194304x6, .f32⟩
  | 66 => ⟨S_, .f32⟩
  | 67 => ⟨S_, .f32⟩
  | 68 => ⟨S4194304x10, .f32⟩
  | 69 => ⟨S_, .f32⟩
  | 70 => ⟨S_, .f32⟩
  | 71 => ⟨S4194304x10, .f32⟩
  | 72 => ⟨S_, .f32⟩
  | 73 => ⟨S_, .f32⟩
  | 74 => ⟨S4194304x11, .f32⟩
  | 75 => ⟨S_, .f32⟩
  | 76 => ⟨S4194304x11, .f32⟩
  | 77 => ⟨S4194304x11, .f32⟩
  | 78 => ⟨S4194304x9, .f32⟩
  | 79 => ⟨S4194304x11, .f32⟩
  | 80 => ⟨S4194304x2, .f32⟩
  | 81 => ⟨S4194304x13, .f32⟩
  | 82 => ⟨S4194304x8, .f32⟩
  | 83 => ⟨S4194304x3, .f32⟩
  | 84 => ⟨S4194304x11, .f32⟩
  | 85 => ⟨S_, .i32⟩
  | 86 => ⟨S1, .i32⟩
  | 87 => ⟨S_, .f32⟩
  | 88 => ⟨S4194304, .f32⟩
  | 89 => ⟨S4194304x9, .f32⟩
  | 90 => ⟨S4194304x1, .f32⟩
  | 91 => ⟨S4194304x9, .f32⟩
  | 92 => ⟨S4194304x9, .i1⟩
  | 93 => ⟨S4194304x9, .i32⟩
  | 94 => ⟨S_, .i32⟩
  | 95 => ⟨S4194304, .i32⟩
  | 96 => ⟨S_, .i32⟩
  | 97 => ⟨S4194304, .i32⟩
  | 98 => ⟨S4194304, .i32⟩
  | 99 => ⟨S_, .i32⟩
  | 100 => ⟨S_, .i32⟩
  | 101 => ⟨S_, .i32⟩
  | 102 => ⟨S4194304, .i32⟩
  | 103 => ⟨S4194304, .i32⟩
  | 104 => ⟨S_, .i32⟩
  | 105 => ⟨S4194304, .i32⟩
  | 106 => ⟨S4194304, .i32⟩
  | 107 => ⟨S4194304x1, .i32⟩
  | 108 => ⟨S_, .i32⟩
  | 109 => ⟨S4194304x1, .i32⟩
  | 110 => ⟨S4194304x1, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S4194304x1, .i32⟩
  | 118 => ⟨S4194304x1, .i32⟩
  | 119 => ⟨S_, .i32⟩
  | 120 => ⟨S4194304x1, .i32⟩
  | 121 => ⟨S4194304x1, .i1⟩
  | 122 => ⟨S_, .i32⟩
  | 123 => ⟨S4194304x1, .i32⟩
  | 124 => ⟨S4194304x1, .i1⟩
  | 125 => ⟨S_, .i32⟩
  | 126 => ⟨S_, .i1⟩
  | 127 => ⟨S4194304x1, .i1⟩
  | _ => ⟨S4194304, .f32⟩

abbrev hbmTy0_1 (i : Nat) : BufTy := match i % 128 with
  | 0 => ⟨S4194304x1, .i1⟩
  | 1 => ⟨S4194304x1, .i1⟩
  | 2 => ⟨S4194304x1, .i32⟩
  | 3 => ⟨S4194304x1, .i32⟩
  | 4 => ⟨S4194304x1, .i32⟩
  | 5 => ⟨S_, .i32⟩
  | 6 => ⟨S4194304x1, .i32⟩
  | 7 => ⟨S4194304x1, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S4194304x1, .i32⟩
  | 15 => ⟨S4194304x1, .i32⟩
  | 16 => ⟨S_, .i32⟩
  | 17 => ⟨S4194304x1, .i32⟩
  | 18 => ⟨S4194304x1, .i1⟩
  | 19 => ⟨S_, .i32⟩
  | 20 => ⟨S4194304x1, .i32⟩
  | 21 => ⟨S4194304x1, .i1⟩
  | 22 => ⟨S_, .i32⟩
  | 23 => ⟨S_, .i1⟩
  | 24 => ⟨S4194304x1, .i1⟩
  | 25 => ⟨S4194304x1, .i1⟩
  | 26 => ⟨S4194304x1, .i1⟩
  | 27 => ⟨S4194304x1, .i32⟩
  | 28 => ⟨S4194304x1, .i32⟩
  | 29 => ⟨S4194304x1, .i32⟩
  | 30 => ⟨S_, .i32⟩
  | 31 => ⟨S4194304x1, .i32⟩
  | 32 => ⟨S4194304x1, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S4194304x1, .i32⟩
  | 40 => ⟨S4194304x1, .i32⟩
  | 41 => ⟨S_, .i32⟩
  | 42 => ⟨S4194304x1, .i32⟩
  | 43 => ⟨S4194304x1, .i1⟩
  | 44 => ⟨S_, .i32⟩
  | 45 => ⟨S4194304x1, .i32⟩
  | 46 => ⟨S4194304x1, .i1⟩
  | 47 => ⟨S_, .i32⟩
  | 48 => ⟨S_, .i1⟩
  | 49 => ⟨S4194304x1, .i1⟩
  | 50 => ⟨S4194304x1, .i1⟩
  | 51 => ⟨S4194304x1, .i1⟩
  | 52 => ⟨S4194304x1, .i32⟩
  | 53 => ⟨S4194304x1, .i32⟩
  | 54 => ⟨S4194304x1, .i32⟩
  | 55 => ⟨S_, .i32⟩
  | 56 => ⟨S4194304x1, .i32⟩
  | 57 => ⟨S4194304x1, .i32⟩
  | 58 => ⟨S_, .i32⟩
  | 59 => ⟨S4194304x1, .i32⟩
  | 60 => ⟨S4194304x1, .i32⟩
  | 61 => ⟨S_, .i32⟩
  | 62 => ⟨S4194304x1, .i32⟩
  | 63 => ⟨S4194304x1, .i32⟩
  | 64 => ⟨S_, .i32⟩
  | 65 => ⟨S4194304x1, .i32⟩
  | 66 => ⟨S4194304x1, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S4194304x1, .i32⟩
  | 74 => ⟨S4194304x1, .i32⟩
  | 75 => ⟨S_, .i32⟩
  | 76 => ⟨S4194304x1, .i32⟩
  | 77 => ⟨S4194304x1, .i1⟩
  | 78 => ⟨S_, .i32⟩
  | 79 => ⟨S4194304x1, .i32⟩
  | 80 => ⟨S4194304x1, .i1⟩
  | 81 => ⟨S_, .i32⟩
  | 82 => ⟨S_, .i1⟩
  | 83 => ⟨S4194304x1, .i1⟩
  | 84 => ⟨S4194304x1, .i1⟩
  | 85 => ⟨S4194304x1, .i1⟩
  | 86 => ⟨S4194304x1, .i32⟩
  | 87 => ⟨S4194304x1, .i32⟩
  | 88 => ⟨S4194304x1, .i32⟩
  | 89 => ⟨S_, .i32⟩
  | 90 => ⟨S4194304x1, .i32⟩
  | 91 => ⟨S4194304x1, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S4194304x1, .i32⟩
  | 99 => ⟨S4194304x1, .i32⟩
  | 100 => ⟨S_, .i32⟩
  | 101 => ⟨S4194304x1, .i32⟩
  | 102 => ⟨S4194304x1, .i1⟩
  | 103 => ⟨S_, .i32⟩
  | 104 => ⟨S4194304x1, .i32⟩
  | 105 => ⟨S4194304x1, .i1⟩
  | 106 => ⟨S_, .i32⟩
  | 107 => ⟨S_, .i1⟩
  | 108 => ⟨S4194304x1, .i1⟩
  | 109 => ⟨S4194304x1, .i1⟩
  | 110 => ⟨S4194304x1, .i1⟩
  | 111 => ⟨S4194304x1, .i32⟩
  | 112 => ⟨S4194304x1, .i32⟩
  | 113 => ⟨S4194304x1, .i32⟩
  | 114 => ⟨S_, .i32⟩
  | 115 => ⟨S4194304x1, .i32⟩
  | 116 => ⟨S4194304x1, .i1⟩
  | 117 => ⟨S_, .i32⟩
  | 118 => ⟨S4194304x1, .i32⟩
  | 119 => ⟨S4194304x1, .i32⟩
  | 120 => ⟨S4194304x1, .i32⟩
  | 121 => ⟨S4194304x1x1, .i32⟩
  | 122 => ⟨S1, .i32⟩
  | 123 => ⟨S_, .i32⟩
  | 124 => ⟨S4194304x1x1, .i32⟩
  | 125 => ⟨S4194304x1x1, .i1⟩
  | 126 => ⟨S1x1x1, .i32⟩
  | 127 => ⟨S4194304x1x1, .i32⟩
  | _ => ⟨S4194304, .f32⟩

abbrev hbmTy0_2 (i : Nat) : BufTy := match i % 128 with
  | 0 => ⟨S4194304x1x1, .i1⟩
  | 1 => ⟨S4194304x1x1, .i1⟩
  | 2 => ⟨S_, .i1⟩
  | 3 => ⟨S4194304x1, .i1⟩
  | 4 => ⟨S4194304x1, .f32⟩
  | 5 => ⟨S_, .f32⟩
  | 6 => ⟨S4194304x1, .f32⟩
  | 7 => ⟨S4194304x1, .f32⟩
  | 8 => ⟨S4194304, .f32⟩
  | 9 => ⟨S_, .i32⟩
  | 10 => ⟨S4194304x1, .i32⟩
  | 11 => ⟨S4194304x1, .i1⟩
  | 12 => ⟨S_, .i32⟩
  | 13 => ⟨S4194304x1, .i32⟩
  | 14 => ⟨S4194304x1, .i32⟩
  | 15 => ⟨S4194304x1, .i32⟩
  | 16 => ⟨S4194304x1x1, .i32⟩
  | 17 => ⟨S1, .i32⟩
  | 18 => ⟨S_, .i32⟩
  | 19 => ⟨S4194304x1x1, .i32⟩
  | 20 => ⟨S4194304x1x1, .i1⟩
  | 21 => ⟨S1x1x1, .i32⟩
  | 22 => ⟨S4194304x1x1, .i32⟩
  | 23 => ⟨S4194304x1x1, .i1⟩
  | 24 => ⟨S4194304x1x1, .i1⟩
  | 25 => ⟨S_, .i1⟩
  | 26 => ⟨S4194304x1, .i1⟩
  | 27 => ⟨S4194304x1, .f32⟩
  | 28 => ⟨S_, .f32⟩
  | 29 => ⟨S4194304x1, .f32⟩
  | 30 => ⟨S4194304x1, .f32⟩
  | 31 => ⟨S4194304, .f32⟩
  | 32 => ⟨S_, .i32⟩
  | 33 => ⟨S4194304x1, .i32⟩
  | 34 => ⟨S4194304x1, .i1⟩
  | 35 => ⟨S_, .i32⟩
  | 36 => ⟨S4194304x1, .i32⟩
  | 37 => ⟨S4194304x1, .i32⟩
  | 38 => ⟨S4194304x1, .i32⟩
  | 39 => ⟨S4194304x1x1, .i32⟩
  | 40 => ⟨S1, .i32⟩
  | 41 => ⟨S_, .i32⟩
  | 42 => ⟨S4194304x1x1, .i32⟩
  | 43 => ⟨S4194304x1x1, .i1⟩
  | 44 => ⟨S1x1x1, .i32⟩
  | 45 => ⟨S4194304x1x1, .i32⟩
  | 46 => ⟨S4194304x1x1, .i1⟩
  | 47 => ⟨S4194304x1x1, .i1⟩
  | 48 => ⟨S_, .i1⟩
  | 49 => ⟨S4194304x1, .i1⟩
  | 50 => ⟨S4194304x1, .f32⟩
  | 51 => ⟨S_, .f32⟩
  | 52 => ⟨S4194304x1, .f32⟩
  | 53 => ⟨S4194304x1, .f32⟩
  | 54 => ⟨S4194304, .f32⟩
  | 55 => ⟨S_, .i32⟩
  | 56 => ⟨S4194304x1, .i32⟩
  | 57 => ⟨S4194304x1, .i1⟩
  | 58 => ⟨S_, .i32⟩
  | 59 => ⟨S4194304x1, .i32⟩
  | 60 => ⟨S4194304x1, .i32⟩
  | 61 => ⟨S4194304x1, .i32⟩
  | 62 => ⟨S4194304x1x1, .i32⟩
  | 63 => ⟨S1, .i32⟩
  | 64 => ⟨S_, .i32⟩
  | 65 => ⟨S4194304x1x1, .i32⟩
  | 66 => ⟨S4194304x1x1, .i1⟩
  | 67 => ⟨S1x1x1, .i32⟩
  | 68 => ⟨S4194304x1x1, .i32⟩
  | 69 => ⟨S4194304x1x1, .i1⟩
  | 70 => ⟨S4194304x1x1, .i1⟩
  | 71 => ⟨S_, .i1⟩
  | 72 => ⟨S4194304x1, .i1⟩
  | 73 => ⟨S4194304x1, .f32⟩
  | 74 => ⟨S_, .f32⟩
  | 75 => ⟨S4194304x1, .f32⟩
  | 76 => ⟨S4194304x1, .f32⟩
  | 77 => ⟨S4194304, .f32⟩
  | 78 => ⟨S_, .i32⟩
  | 79 => ⟨S4194304x1, .i32⟩
  | 80 => ⟨S4194304x1, .i1⟩
  | 81 => ⟨S_, .i32⟩
  | 82 => ⟨S4194304x1, .i32⟩
  | 83 => ⟨S4194304x1, .i32⟩
  | 84 => ⟨S4194304x1, .i32⟩
  | 85 => ⟨S4194304x1x1, .i32⟩
  | 86 => ⟨S1, .i32⟩
  | 87 => ⟨S_, .i32⟩
  | 88 => ⟨S4194304x1x1, .i32⟩
  | 89 => ⟨S4194304x1x1, .i1⟩
  | 90 => ⟨S1x1x1, .i32⟩
  | 91 => ⟨S4194304x1x1, .i32⟩
  | 92 => ⟨S4194304x1x1, .i1⟩
  | 93 => ⟨S4194304x1x1, .i1⟩
  | 94 => ⟨S_, .i1⟩
  | 95 => ⟨S4194304x1, .i1⟩
  | 96 => ⟨S4194304x1, .f32⟩
  | 97 => ⟨S_, .f32⟩
  | 98 => ⟨S4194304x1, .f32⟩
  | 99 => ⟨S4194304x1, .f32⟩
  | 100 => ⟨S4194304, .f32⟩
  | 101 => ⟨S_, .i32⟩
  | 102 => ⟨S4194304x1, .i32⟩
  | 103 => ⟨S4194304x1, .i1⟩
  | 104 => ⟨S_, .i32⟩
  | 105 => ⟨S4194304x1, .i32⟩
  | 106 => ⟨S4194304x1, .i32⟩
  | 107 => ⟨S4194304x1, .i32⟩
  | 108 => ⟨S4194304x1x1, .i32⟩
  | 109 => ⟨S1, .i32⟩
  | 110 => ⟨S_, .i32⟩
  | 111 => ⟨S4194304x1x1, .i32⟩
  | 112 => ⟨S4194304x1x1, .i1⟩
  | 113 => ⟨S1x1x1, .i32⟩
  | 114 => ⟨S4194304x1x1, .i32⟩
  | 115 => ⟨S4194304x1x1, .i1⟩
  | 116 => ⟨S4194304x1x1, .i1⟩
  | 117 => ⟨S_, .i1⟩
  | 118 => ⟨S4194304x1, .i1⟩
  | 119 => ⟨S4194304x1, .f32⟩
  | 120 => ⟨S_, .f32⟩
  | 121 => ⟨S4194304x1, .f32⟩
  | 122 => ⟨S4194304x1, .f32⟩
  | 123 => ⟨S4194304, .f32⟩
  | 124 => ⟨S_, .i32⟩
  | 125 => ⟨S4194304x1, .i32⟩
  | 126 => ⟨S4194304x1, .i1⟩
  | 127 => ⟨S_, .i32⟩
  | _ => ⟨S4194304, .f32⟩

abbrev hbmTy0_3 (i : Nat) : BufTy := match i % 128 with
  | 0 => ⟨S4194304x1, .i32⟩
  | 1 => ⟨S4194304x1, .i32⟩
  | 2 => ⟨S4194304x1, .i32⟩
  | 3 => ⟨S4194304x1x1, .i32⟩
  | 4 => ⟨S1, .i32⟩
  | 5 => ⟨S_, .i32⟩
  | 6 => ⟨S4194304x1x1, .i32⟩
  | 7 => ⟨S4194304x1x1, .i1⟩
  | 8 => ⟨S1x1x1, .i32⟩
  | 9 => ⟨S4194304x1x1, .i32⟩
  | 10 => ⟨S4194304x1x1, .i1⟩
  | 11 => ⟨S4194304x1x1, .i1⟩
  | 12 => ⟨S_, .i1⟩
  | 13 => ⟨S4194304x1, .i1⟩
  | 14 => ⟨S4194304x1, .f32⟩
  | 15 => ⟨S_, .f32⟩
  | 16 => ⟨S4194304x1, .f32⟩
  | 17 => ⟨S4194304x1, .f32⟩
  | 18 => ⟨S4194304, .f32⟩
  | 19 => ⟨S_, .i32⟩
  | 20 => ⟨S4194304x1, .i32⟩
  | 21 => ⟨S4194304x1, .i1⟩
  | 22 => ⟨S_, .i32⟩
  | 23 => ⟨S4194304x1, .i32⟩
  | 24 => ⟨S4194304x1, .i32⟩
  | 25 => ⟨S4194304x1, .i32⟩
  | 26 => ⟨S4194304x1x1, .i32⟩
  | 27 => ⟨S1, .i32⟩
  | 28 => ⟨S_, .i32⟩
  | 29 => ⟨S4194304x1x1, .i32⟩
  | 30 => ⟨S4194304x1x1, .i1⟩
  | 31 => ⟨S1x1x1, .i32⟩
  | 32 => ⟨S4194304x1x1, .i32⟩
  | 33 => ⟨S4194304x1x1, .i1⟩
  | 34 => ⟨S4194304x1x1, .i1⟩
  | 35 => ⟨S_, .i1⟩
  | 36 => ⟨S4194304x1, .i1⟩
  | 37 => ⟨S4194304x1, .f32⟩
  | 38 => ⟨S_, .f32⟩
  | 39 => ⟨S4194304x1, .f32⟩
  | 40 => ⟨S4194304x1, .f32⟩
  | 41 => ⟨S4194304, .f32⟩
  | 42 => ⟨S_, .i32⟩
  | 43 => ⟨S4194304x1, .i32⟩
  | 44 => ⟨S4194304x1, .i1⟩
  | 45 => ⟨S_, .i32⟩
  | 46 => ⟨S4194304x1, .i32⟩
  | 47 => ⟨S4194304x1, .i32⟩
  | 48 => ⟨S4194304x1, .i32⟩
  | 49 => ⟨S4194304x1x1, .i32⟩
  | 50 => ⟨S1, .i32⟩
  | 51 => ⟨S_, .i32⟩
  | 52 => ⟨S4194304x1x1, .i32⟩
  | 53 => ⟨S4194304x1x1, .i1⟩
  | 54 => ⟨S1x1x1, .i32⟩
  | 55 => ⟨S4194304x1x1, .i32⟩
  | 56 => ⟨S4194304x1x1, .i1⟩
  | 57 => ⟨S4194304x1x1, .i1⟩
  | 58 => ⟨S_, .i1⟩
  | 59 => ⟨S4194304x1, .i1⟩
  | 60 => ⟨S4194304x1, .f32⟩
  | 61 => ⟨S_, .f32⟩
  | 62 => ⟨S4194304x1, .f32⟩
  | 63 => ⟨S4194304x1, .f32⟩
  | 64 => ⟨S4194304, .f32⟩
  | 65 => ⟨S_, .i32⟩
  | 66 => ⟨S4194304x1, .i32⟩
  | 67 => ⟨S4194304x1, .i1⟩
  | 68 => ⟨S_, .i32⟩
  | 69 => ⟨S4194304x1, .i32⟩
  | 70 => ⟨S4194304x1, .i32⟩
  | 71 => ⟨S4194304x1, .i32⟩
  | 72 => ⟨S4194304x1x1, .i32⟩
  | 73 => ⟨S1, .i32⟩
  | 74 => ⟨S_, .i32⟩
  | 75 => ⟨S4194304x1x1, .i32⟩
  | 76 => ⟨S4194304x1x1, .i1⟩
  | 77 => ⟨S1x1x1, .i32⟩
  | 78 => ⟨S4194304x1x1, .i32⟩
  | 79 => ⟨S4194304x1x1, .i1⟩
  | 80 => ⟨S4194304x1x1, .i1⟩
  | 81 => ⟨S_, .i1⟩
  | 82 => ⟨S4194304x1, .i1⟩
  | 83 => ⟨S4194304x1, .f32⟩
  | 84 => ⟨S_, .f32⟩
  | 85 => ⟨S4194304x1, .f32⟩
  | 86 => ⟨S4194304x1, .f32⟩
  | 87 => ⟨S4194304, .f32⟩
  | 88 => ⟨S4194304, .f32⟩
  | 89 => ⟨S4194304, .f32⟩
  | 90 => ⟨S4194304, .f32⟩
  | 91 => ⟨S4194304, .f32⟩
  | 92 => ⟨S4194304, .f32⟩
  | 93 => ⟨S_, .f32⟩
  | 94 => ⟨S4194304, .f32⟩
  | 95 => ⟨S4194304, .f32⟩
  | 96 => ⟨S4194304, .f32⟩
  | 97 => ⟨S4194304, .f32⟩
  | 98 => ⟨S4194304, .f32⟩
  | 99 => ⟨S4194304, .f32⟩
  | 100 => ⟨S4194304, .f32⟩
  | 101 => ⟨S4194304, .f32⟩
  | 102 => ⟨S_, .f32⟩
  | 103 => ⟨S4194304, .f32⟩
  | 104 => ⟨S4194304, .f32⟩
  | 105 => ⟨S4194304, .f32⟩
  | 106 => ⟨S4194304, .f32⟩
  | 107 => ⟨S4194304, .f32⟩
  | 108 => ⟨S4194304, .f32⟩
  | 109 => ⟨S4194304, .f32⟩
  | 110 => ⟨S_, .f32⟩
  | 111 => ⟨S4194304, .f32⟩
  | 112 => ⟨S4194304, .f32⟩
  | 113 => ⟨S4194304, .f32⟩
  | 114 => ⟨S4194304, .f32⟩
  | 115 => ⟨S4194304, .f32⟩
  | 116 => ⟨S4194304, .f32⟩
  | 117 => ⟨S4194304, .f32⟩
  | 118 => ⟨S4194304, .f32⟩
  | 119 => ⟨S_, .f32⟩
  | 120 => ⟨S4194304, .f32⟩
  | 121 => ⟨S4194304, .f32⟩
  | 122 => ⟨S4194304, .f32⟩
  | 123 => ⟨S4194304, .f32⟩
  | 124 => ⟨S4194304, .f32⟩
  | 125 => ⟨S4194304, .f32⟩
  | 126 => ⟨S4194304, .f32⟩
  | 127 => ⟨S4194304, .f32⟩
  | _ => ⟨S4194304, .f32⟩

abbrev hbmTy0_4 (i : Nat) : BufTy := match i % 128 with
  | 0 => ⟨S4194304, .f32⟩
  | 1 => ⟨S4194304, .f32⟩
  | 2 => ⟨S_, .f32⟩
  | 3 => ⟨S4194304, .f32⟩
  | 4 => ⟨S4194304, .f32⟩
  | 5 => ⟨S4194304, .f32⟩
  | 6 => ⟨S4194304, .f32⟩
  | 7 => ⟨S4194304, .f32⟩
  | 8 => ⟨S4194304, .f32⟩
  | 9 => ⟨S4194304, .f32⟩
  | 10 => ⟨S_, .f32⟩
  | 11 => ⟨S4194304, .f32⟩
  | 12 => ⟨S4194304, .f32⟩
  | 13 => ⟨S4194304, .f32⟩
  | 14 => ⟨S4194304, .f32⟩
  | 15 => ⟨S4194304, .f32⟩
  | 16 => ⟨S4194304, .f32⟩
  | 17 => ⟨S4194304, .f32⟩
  | 18 => ⟨S4194304, .f32⟩
  | 19 => ⟨S_, .f32⟩
  | 20 => ⟨S4194304, .f32⟩
  | 21 => ⟨S4194304, .f32⟩
  | 22 => ⟨S4194304, .f32⟩
  | 23 => ⟨S4194304, .f32⟩
  | 24 => ⟨S4194304, .f32⟩
  | 25 => ⟨S4194304, .f32⟩
  | 26 => ⟨S4194304, .f32⟩
  | 27 => ⟨S4194304, .f32⟩
  | 28 => ⟨S4194304, .f32⟩
  | 29 => ⟨S4194304, .f32⟩
  | 30 => ⟨S_, .f32⟩
  | 31 => ⟨S4194304, .f32⟩
  | 32 => ⟨S4194304, .f32⟩
  | 33 => ⟨S4194304, .f32⟩
  | 34 => ⟨S4194304, .f32⟩
  | 35 => ⟨S_, .f32⟩
  | 36 => ⟨S4194304, .f32⟩
  | 37 => ⟨S4194304, .f32⟩
  | 38 => ⟨S4194304, .f32⟩
  | 39 => ⟨S4194304, .f32⟩
  | 40 => ⟨S4194304, .f32⟩
  | 41 => ⟨S4194304, .f32⟩
  | 42 => ⟨S4194304, .f32⟩
  | 43 => ⟨S4194304, .f32⟩
  | 44 => ⟨S4194304, .f32⟩
  | 45 => ⟨S_, .f32⟩
  | 46 => ⟨S4194304, .f32⟩
  | 47 => ⟨S4194304, .f32⟩
  | 48 => ⟨S4194304, .f32⟩
  | 49 => ⟨S4194304, .f32⟩
  | 50 => ⟨S4194304, .f32⟩
  | 51 => ⟨S4194304, .f32⟩
  | 52 => ⟨S4194304, .f32⟩
  | 53 => ⟨S4194304, .f32⟩
  | 54 => ⟨S4194304, .f32⟩
  | 55 => ⟨S4194304, .f32⟩
  | 56 => ⟨S4194304, .f32⟩
  | 57 => ⟨S4194304, .f32⟩
  | 58 => ⟨S4194304, .f32⟩
  | 59 => ⟨S4194304, .f32⟩
  | 60 => ⟨S4194304, .f32⟩
  | 61 => ⟨S4194304, .f32⟩
  | 62 => ⟨S4194304, .f32⟩
  | 63 => ⟨S4194304, .f32⟩
  | 64 => ⟨S_, .f32⟩
  | 65 => ⟨S4194304, .f32⟩
  | 66 => ⟨S4194304, .f32⟩
  | 67 => ⟨S4194304, .f32⟩
  | 68 => ⟨S4194304, .f32⟩
  | 69 => ⟨S4194304, .f32⟩
  | 70 => ⟨S4194304, .f32⟩
  | 71 => ⟨S4194304, .f32⟩
  | 72 => ⟨S4194304, .f32⟩
  | 73 => ⟨S4194304, .f32⟩
  | 74 => ⟨S4194304, .f32⟩
  | 75 => ⟨S4194304, .f32⟩
  | 76 => ⟨S4194304, .f32⟩
  | 77 => ⟨S_, .f32⟩
  | 78 => ⟨S4194304, .f32⟩
  | 79 => ⟨S4194304, .f32⟩
  | 80 => ⟨S4194304, .f32⟩
  | 81 => ⟨S4194304, .f32⟩
  | 82 => ⟨S4194304, .f32⟩
  | 83 => ⟨S4194304, .f32⟩
  | 84 => ⟨S4194304, .f32⟩
  | 85 => ⟨S4194304, .f32⟩
  | 86 => ⟨S4194304, .f32⟩
  | 87 => ⟨S_, .f32⟩
  | 88 => ⟨S4194304, .f32⟩
  | 89 => ⟨S4194304, .f32⟩
  | 90 => ⟨S4194304, .f32⟩
  | 91 => ⟨S4194304, .f32⟩
  | 92 => ⟨S4194304, .f32⟩
  | 93 => ⟨S4194304, .f32⟩
  | 94 => ⟨S4194304, .f32⟩
  | 95 => ⟨S4194304, .f32⟩
  | 96 => ⟨S4194304, .f32⟩
  | 97 => ⟨S4194304, .f32⟩
  | 98 => ⟨S4194304, .f32⟩
  | 99 => ⟨S4194304, .f32⟩
  | 100 => ⟨S4194304, .f32⟩
  | 101 => ⟨S4194304, .f32⟩
  | 102 => ⟨S4194304, .f32⟩
  | 103 => ⟨S4194304, .f32⟩
  | 104 => ⟨S4194304, .f32⟩
  | 105 => ⟨S4194304, .f32⟩
  | 106 => ⟨S4194304, .f32⟩
  | 107 => ⟨S4194304, .f32⟩
  | 108 => ⟨S4194304, .f32⟩
  | 109 => ⟨S4194304, .f32⟩
  | 110 => ⟨S_, .f32⟩
  | 111 => ⟨S4194304, .f32⟩
  | 112 => ⟨S4194304, .f32⟩
  | 113 => ⟨S4194304, .f32⟩
  | 114 => ⟨S4194304, .f32⟩
  | 115 => ⟨S4194304, .f32⟩
  | 116 => ⟨S4194304, .f32⟩
  | 117 => ⟨S4194304, .f32⟩
  | 118 => ⟨S4194304, .f32⟩
  | 119 => ⟨S4194304, .f32⟩
  | 120 => ⟨S4194304, .f32⟩
  | 121 => ⟨S_, .f32⟩
  | 122 => ⟨S4194304, .f32⟩
  | 123 => ⟨S4194304, .f32⟩
  | 124 => ⟨S4194304, .f32⟩
  | 125 => ⟨S4194304, .f32⟩
  | 126 => ⟨S4194304, .f32⟩
  | 127 => ⟨S4194304, .f32⟩
  | _ => ⟨S4194304, .f32⟩

abbrev hbmTy0_5 (i : Nat) : BufTy := match i % 128 with
  | 0 => ⟨S4194304, .f32⟩
  | 1 => ⟨S4194304, .f32⟩
  | 2 => ⟨S4194304, .f32⟩
  | 3 => ⟨S4194304, .f32⟩
  | 4 => ⟨S4194304, .f32⟩
  | 5 => ⟨S4194304, .f32⟩
  | 6 => ⟨S_, .f32⟩
  | 7 => ⟨S4194304, .f32⟩
  | 8 => ⟨S4194304, .f32⟩
  | 9 => ⟨S4194304, .f32⟩
  | 10 => ⟨S4194304, .f32⟩
  | 11 => ⟨S4194304, .f32⟩
  | 12 => ⟨S4194304, .f32⟩
  | 13 => ⟨S4194304, .f32⟩
  | 14 => ⟨S4194304, .f32⟩
  | 15 => ⟨S4194304, .f32⟩
  | 16 => ⟨S4194304, .f32⟩
  | 17 => ⟨S4194304, .f32⟩
  | 18 => ⟨S4194304, .f32⟩
  | 19 => ⟨S4194304, .f32⟩
  | 20 => ⟨S4194304, .f32⟩
  | 21 => ⟨S4194304, .f32⟩
  | 22 => ⟨S4194304, .f32⟩
  | 23 => ⟨S4194304, .f32⟩
  | 24 => ⟨S4194304, .f32⟩
  | 25 => ⟨S4194304, .f32⟩
  | 26 => ⟨S4194304, .f32⟩
  | 27 => ⟨S4194304, .f32⟩
  | 28 => ⟨S4194304, .f32⟩
  | 29 => ⟨S4194304, .f32⟩
  | 30 => ⟨S4194304, .f32⟩
  | 31 => ⟨S4194304, .f32⟩
  | 32 => ⟨S_, .f32⟩
  | 33 => ⟨S4194304, .f32⟩
  | 34 => ⟨S4194304, .f32⟩
  | 35 => ⟨S4194304, .f32⟩
  | 36 => ⟨S4194304, .f32⟩
  | 37 => ⟨S4194304, .f32⟩
  | 38 => ⟨S4194304, .f32⟩
  | 39 => ⟨S4194304, .f32⟩
  | 40 => ⟨S4194304, .f32⟩
  | 41 => ⟨S4194304, .f32⟩
  | 42 => ⟨S4194304, .f32⟩
  | 43 => ⟨S4194304, .f32⟩
  | 44 => ⟨S4194304, .f32⟩
  | 45 => ⟨S4194304, .f32⟩
  | 46 => ⟨S4194304, .f32⟩
  | 47 => ⟨S_, .f32⟩
  | 48 => ⟨S4194304, .f32⟩
  | 49 => ⟨S4194304, .f32⟩
  | 50 => ⟨S4194304, .f32⟩
  | 51 => ⟨S4194304, .f32⟩
  | 52 => ⟨S4194304, .f32⟩
  | 53 => ⟨S4194304, .f32⟩
  | 54 => ⟨S4194304, .f32⟩
  | 55 => ⟨S4194304, .f32⟩
  | 56 => ⟨S4194304, .f32⟩
  | 57 => ⟨S4194304, .f32⟩
  | 58 => ⟨S4194304, .f32⟩
  | 59 => ⟨S_, .f32⟩
  | 60 => ⟨S4194304, .f32⟩
  | 61 => ⟨S4194304, .f32⟩
  | 62 => ⟨S4194304, .f32⟩
  | 63 => ⟨S4194304, .f32⟩
  | 64 => ⟨S4194304, .f32⟩
  | 65 => ⟨S4194304, .f32⟩
  | 66 => ⟨S4194304, .f32⟩
  | 67 => ⟨S4194304, .f32⟩
  | 68 => ⟨S4194304, .f32⟩
  | 69 => ⟨S4194304, .f32⟩
  | 70 => ⟨S4194304, .f32⟩
  | 71 => ⟨S4194304, .f32⟩
  | 72 => ⟨S4194304, .f32⟩
  | 73 => ⟨S4194304, .f32⟩
  | 74 => ⟨S4194304, .f32⟩
  | 75 => ⟨S4194304, .f32⟩
  | 76 => ⟨S4194304, .f32⟩
  | 77 => ⟨S4194304, .f32⟩
  | 78 => ⟨S4194304, .f32⟩
  | 79 => ⟨S4194304, .f32⟩
  | 80 => ⟨S4194304, .f32⟩
  | 81 => ⟨S4194304, .f32⟩
  | 82 => ⟨S4194304, .f32⟩
  | 83 => ⟨S4194304, .f32⟩
  | 84 => ⟨S4194304, .f32⟩
  | 85 => ⟨S_, .f32⟩
  | 86 => ⟨S4194304, .f32⟩
  | 87 => ⟨S4194304, .f32⟩
  | 88 => ⟨S4194304, .f32⟩
  | 89 => ⟨S4194304, .f32⟩
  | 90 => ⟨S4194304, .f32⟩
  | 91 => ⟨S4194304, .f32⟩
  | 92 => ⟨S4194304, .f32⟩
  | 93 => ⟨S4194304, .f32⟩
  | 94 => ⟨S4194304, .f32⟩
  | 95 => ⟨S4194304, .f32⟩
  | 96 => ⟨S4194304, .f32⟩
  | 97 => ⟨S4194304, .f32⟩
  | 98 => ⟨S4194304, .f32⟩
  | 99 => ⟨S4194304, .f32⟩
  | 100 => ⟨S4194304, .f32⟩
  | 101 => ⟨S4194304, .f32⟩
  | 102 => ⟨S4194304, .f32⟩
  | 103 => ⟨S4194304, .f32⟩
  | 104 => ⟨S4194304, .f32⟩
  | 105 => ⟨S4194304, .f32⟩
  | 106 => ⟨S4194304, .f32⟩
  | 107 => ⟨S4194304, .f32⟩
  | 108 => ⟨S4194304, .f32⟩
  | 109 => ⟨S4194304, .f32⟩
  | 110 => ⟨S4194304, .f32⟩
  | 111 => ⟨S4194304, .f32⟩
  | 112 => ⟨S4194304, .f32⟩
  | 113 => ⟨S4194304, .f32⟩
  | 114 => ⟨S4194304, .f32⟩
  | 115 => ⟨S4194304, .f32⟩
  | 116 => ⟨S4194304, .f32⟩
  | 117 => ⟨S4194304, .f32⟩
  | 118 => ⟨S4194304, .f32⟩
  | 119 => ⟨S4194304, .f32⟩
  | 120 => ⟨S4194304, .f32⟩
  | 121 => ⟨S4194304, .f32⟩
  | 122 => ⟨S4194304, .f32⟩
  | 123 => ⟨S4194304, .f32⟩
  | 124 => ⟨S4194304, .f32⟩
  | 125 => ⟨S4194304, .f32⟩
  | 126 => ⟨S4194304, .f32⟩
  | 127 => ⟨S4194304, .f32⟩
  | _ => ⟨S4194304, .f32⟩

abbrev hbmTy0_6 (i : Nat) : BufTy := match i % 128 with
  | 0 => ⟨S4194304, .f32⟩
  | 1 => ⟨S4194304, .f32⟩
  | 2 => ⟨S4194304, .f32⟩
  | 3 => ⟨S4194304, .f32⟩
  | 4 => ⟨S4194304, .f32⟩
  | 5 => ⟨S4194304, .f32⟩
  | 6 => ⟨S4194304, .f32⟩
  | 7 => ⟨S4194304, .f32⟩
  | 8 => ⟨S4194304, .f32⟩
  | 9 => ⟨S4194304, .f32⟩
  | 10 => ⟨S4194304, .f32⟩
  | 11 => ⟨S4194304, .f32⟩
  | 12 => ⟨S4194304, .f32⟩
  | 13 => ⟨S4194304, .f32⟩
  | 14 => ⟨S4194304, .f32⟩
  | 15 => ⟨S4194304, .f32⟩
  | 16 => ⟨S4194304, .f32⟩
  | 17 => ⟨S4194304, .f32⟩
  | 18 => ⟨S4194304, .f32⟩
  | 19 => ⟨S4194304, .f32⟩
  | 20 => ⟨S4194304, .f32⟩
  | 21 => ⟨S4194304, .f32⟩
  | 22 => ⟨S4194304, .f32⟩
  | 23 => ⟨S4194304, .f32⟩
  | 24 => ⟨S4194304, .f32⟩
  | 25 => ⟨S4194304, .f32⟩
  | 26 => ⟨S4194304, .f32⟩
  | 27 => ⟨S4194304, .f32⟩
  | 28 => ⟨S4194304, .f32⟩
  | 29 => ⟨S4194304, .f32⟩
  | 30 => ⟨S4194304, .f32⟩
  | 31 => ⟨S4194304, .f32⟩
  | 32 => ⟨S4194304, .f32⟩
  | 33 => ⟨S4194304, .f32⟩
  | 34 => ⟨S4194304, .f32⟩
  | 35 => ⟨S4194304, .f32⟩
  | 36 => ⟨S4194304, .f32⟩
  | 37 => ⟨S4194304, .f32⟩
  | 38 => ⟨S4194304, .f32⟩
  | 39 => ⟨S4194304, .f32⟩
  | 40 => ⟨S4194304, .f32⟩
  | 41 => ⟨S4194304, .f32⟩
  | 42 => ⟨S4194304, .f32⟩
  | 43 => ⟨S4194304, .f32⟩
  | 44 => ⟨S4194304, .f32⟩
  | 45 => ⟨S4194304, .f32⟩
  | 46 => ⟨S4194304, .f32⟩
  | 47 => ⟨S4194304, .f32⟩
  | 48 => ⟨S4194304, .f32⟩
  | 49 => ⟨S4194304, .f32⟩
  | 50 => ⟨S4194304, .f32⟩
  | 51 => ⟨S4194304, .f32⟩
  | 52 => ⟨S_, .f32⟩
  | 53 => ⟨S4194304, .f32⟩
  | 54 => ⟨S4194304, .f32⟩
  | 55 => ⟨S4194304, .f32⟩
  | 56 => ⟨S_, .f32⟩
  | 57 => ⟨S4194304, .f32⟩
  | 58 => ⟨S4194304, .f32⟩
  | 59 => ⟨S4194304, .f32⟩
  | 60 => ⟨S4194304, .f32⟩
  | 61 => ⟨S4194304, .f32⟩
  | 62 => ⟨S4194304, .f32⟩
  | 63 => ⟨S_, .f32⟩
  | 64 => ⟨S4194304, .f32⟩
  | 65 => ⟨S4194304, .f32⟩
  | 66 => ⟨S4194304, .f32⟩
  | 67 => ⟨S4194304, .f32⟩
  | 68 => ⟨S_, .f32⟩
  | 69 => ⟨S_, .f32⟩
  | 70 => ⟨S4194304, .f32⟩
  | 71 => ⟨S4194304, .f32⟩
  | _ => ⟨S4194304, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4194304, .f32⟩

abbrev bufTy : (tb : Table) → Fin (tcTables nBuf tb) → BufTy
  | .hbm, ⟨i, _⟩ => hbmTy i
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_call0_v0 : Ref sig .tc := ⟨.hbm, 35, rfl⟩
abbrev main_v23 : Ref sig .tc := ⟨.hbm, 36, rfl⟩
abbrev main_call1_call0_cst : Ref sig .tc := ⟨.hbm, 37, rfl⟩
abbrev main_call1_call0_v0 : Ref sig .tc := ⟨.hbm, 38, rfl⟩
abbrev main_v24 : Ref sig .tc := ⟨.hbm, 39, rfl⟩
abbrev main_cst_8 : Ref sig .tc := ⟨.hbm, 40, rfl⟩
abbrev main_call2_v0 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_cst_11 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_12 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_cst_14 : Ref sig .tc := ⟨.hbm, 63, rfl⟩
abbrev main_v41 : Ref sig .tc := ⟨.hbm, 64, rfl⟩
abbrev main_v42 : Ref sig .tc := ⟨.hbm, 65, rfl⟩
abbrev main_cst_15 : Ref sig .tc := ⟨.hbm, 66, rfl⟩
abbrev main_call3_v0 : Ref sig .tc := ⟨.hbm, 67, rfl⟩
abbrev main_v43 : Ref sig .tc := ⟨.hbm, 68, rfl⟩
abbrev main_call4_call0_cst : Ref sig .tc := ⟨.hbm, 69, rfl⟩
abbrev main_call4_call0_v0 : Ref sig .tc := ⟨.hbm, 70, rfl⟩
abbrev main_v44 : Ref sig .tc := ⟨.hbm, 71, rfl⟩
abbrev main_cst_16 : Ref sig .tc := ⟨.hbm, 72, rfl⟩
abbrev main_call5_v0 : Ref sig .tc := ⟨.hbm, 73, rfl⟩
abbrev main_v45 : Ref sig .tc := ⟨.hbm, 74, rfl⟩
abbrev main_cst_17 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call6_v0 : Ref sig .tc := ⟨.hbm, 79, rfl⟩
abbrev main_call6_v1 : Ref sig .tc := ⟨.hbm, 80, rfl⟩
abbrev main_v49 : Ref sig .tc := ⟨.hbm, 81, rfl⟩
abbrev main_call7_v0 : Ref sig .tc := ⟨.hbm, 82, rfl⟩
abbrev main_call7_v1 : Ref sig .tc := ⟨.hbm, 83, rfl⟩
abbrev main_v50 : Ref sig .tc := ⟨.hbm, 84, rfl⟩
abbrev main_c : Ref sig .tc := ⟨.hbm, 85, rfl⟩
abbrev main_v51 : Ref sig .tc := ⟨.hbm, 86, rfl⟩
abbrev main_cst_18 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_19 : Ref sig .tc := ⟨.hbm, 94, rfl⟩
abbrev main_v58 : Ref sig .tc := ⟨.hbm, 95, rfl⟩
abbrev main_c_20 : Ref sig .tc := ⟨.hbm, 96, rfl⟩
abbrev main_v59 : Ref sig .tc := ⟨.hbm, 97, rfl⟩
abbrev main_v60 : Ref sig .tc := ⟨.hbm, 98, rfl⟩
abbrev main_c_21 : Ref sig .tc := ⟨.hbm, 99, rfl⟩
abbrev main_c_22 : Ref sig .tc := ⟨.hbm, 100, rfl⟩
abbrev main_call8_v0 : Ref sig .tc := ⟨.hbm, 101, rfl⟩
abbrev main_call8_v1 : Ref sig .tc := ⟨.hbm, 102, rfl⟩
abbrev main_call8_v2 : Ref sig .tc := ⟨.hbm, 103, rfl⟩
abbrev main_call8_v3 : Ref sig .tc := ⟨.hbm, 104, rfl⟩
abbrev main_call8_v4 : Ref sig .tc := ⟨.hbm, 105, rfl⟩
abbrev main_v61 : Ref sig .tc := ⟨.hbm, 106, rfl⟩
abbrev main_v62 : Ref sig .tc := ⟨.hbm, 107, rfl⟩
abbrev main_c_23 : Ref sig .tc := ⟨.hbm, 108, rfl⟩
abbrev main_v63 : Ref sig .tc := ⟨.hbm, 109, rfl⟩
abbrev main_v64 : Ref sig .tc := ⟨.hbm, 110, rfl⟩
abbrev main_c_24 : Ref sig .tc := ⟨.hbm, 111, rfl⟩
abbrev main_call9_v0 : Ref sig .tc := ⟨.hbm, 112, rfl⟩
abbrev main_call9_c : Ref sig .tc := ⟨.hbm, 113, rfl⟩
abbrev main_call9_v1 : Ref sig .tc := ⟨.hbm, 114, rfl⟩
abbrev main_call9_c_0 : Ref sig .tc := ⟨.hbm, 115, rfl⟩
abbrev main_call9_v2 : Ref sig .tc := ⟨.hbm, 116, rfl⟩
abbrev main_call9_v3 : Ref sig .tc := ⟨.hbm, 117, rfl⟩
abbrev main_call9_v4 : Ref sig .tc := ⟨.hbm, 118, rfl⟩
abbrev main_call9_c_1 : Ref sig .tc := ⟨.hbm, 119, rfl⟩
abbrev main_call9_v5 : Ref sig .tc := ⟨.hbm, 120, rfl⟩
abbrev main_call9_v6 : Ref sig .tc := ⟨.hbm, 121, rfl⟩
abbrev main_call9_c_2 : Ref sig .tc := ⟨.hbm, 122, rfl⟩
abbrev main_call9_v7 : Ref sig .tc := ⟨.hbm, 123, rfl⟩
abbrev main_call9_v8 : Ref sig .tc := ⟨.hbm, 124, rfl⟩
abbrev main_call9_c_3 : Ref sig .tc := ⟨.hbm, 125, rfl⟩
abbrev main_call9_v9 : Ref sig .tc := ⟨.hbm, 126, rfl⟩
abbrev main_call9_v10 : Ref sig .tc := ⟨.hbm, 127, rfl⟩
abbrev main_call9_v11 : Ref sig .tc := ⟨.hbm, 128, rfl⟩
abbrev main_call9_v12 : Ref sig .tc := ⟨.hbm, 129, rfl⟩
abbrev main_call9_v13 : Ref sig .tc := ⟨.hbm, 130, rfl⟩
abbrev main_call9_v14 : Ref sig .tc := ⟨.hbm, 131, rfl⟩
abbrev main_v65 : Ref sig .tc := ⟨.hbm, 132, rfl⟩
abbrev main_c_25 : Ref sig .tc := ⟨.hbm, 133, rfl⟩
abbrev main_v66 : Ref sig .tc := ⟨.hbm, 134, rfl⟩
abbrev main_v67 : Ref sig .tc := ⟨.hbm, 135, rfl⟩
abbrev main_c_26 : Ref sig .tc := ⟨.hbm, 136, rfl⟩
abbrev main_call10_v0 : Ref sig .tc := ⟨.hbm, 137, rfl⟩
abbrev main_call10_c : Ref sig .tc := ⟨.hbm, 138, rfl⟩
abbrev main_call10_v1 : Ref sig .tc := ⟨.hbm, 139, rfl⟩
abbrev main_call10_c_0 : Ref sig .tc := ⟨.hbm, 140, rfl⟩
abbrev main_call10_v2 : Ref sig .tc := ⟨.hbm, 141, rfl⟩
abbrev main_call10_v3 : Ref sig .tc := ⟨.hbm, 142, rfl⟩
abbrev main_call10_v4 : Ref sig .tc := ⟨.hbm, 143, rfl⟩
abbrev main_call10_c_1 : Ref sig .tc := ⟨.hbm, 144, rfl⟩
abbrev main_call10_v5 : Ref sig .tc := ⟨.hbm, 145, rfl⟩
abbrev main_call10_v6 : Ref sig .tc := ⟨.hbm, 146, rfl⟩
abbrev main_call10_c_2 : Ref sig .tc := ⟨.hbm, 147, rfl⟩
abbrev main_call10_v7 : Ref sig .tc := ⟨.hbm, 148, rfl⟩
abbrev main_call10_v8 : Ref sig .tc := ⟨.hbm, 149, rfl⟩
abbrev main_call10_c_3 : Ref sig .tc := ⟨.hbm, 150, rfl⟩
abbrev main_call10_v9 : Ref sig .tc := ⟨.hbm, 151, rfl⟩
abbrev main_call10_v10 : Ref sig .tc := ⟨.hbm, 152, rfl⟩
abbrev main_call10_v11 : Ref sig .tc := ⟨.hbm, 153, rfl⟩
abbrev main_call10_v12 : Ref sig .tc := ⟨.hbm, 154, rfl⟩
abbrev main_call10_v13 : Ref sig .tc := ⟨.hbm, 155, rfl⟩
abbrev main_call10_v14 : Ref sig .tc := ⟨.hbm, 156, rfl⟩
abbrev main_v68 : Ref sig .tc := ⟨.hbm, 157, rfl⟩
abbrev main_c_27 : Ref sig .tc := ⟨.hbm, 158, rfl⟩
abbrev main_v69 : Ref sig .tc := ⟨.hbm, 159, rfl⟩
abbrev main_v70 : Ref sig .tc := ⟨.hbm, 160, rfl⟩
abbrev main_c_28 : Ref sig .tc := ⟨.hbm, 161, rfl⟩
abbrev main_call11_v0 : Ref sig .tc := ⟨.hbm, 162, rfl⟩
abbrev main_call11_c : Ref sig .tc := ⟨.hbm, 163, rfl⟩
abbrev main_call11_v1 : Ref sig .tc := ⟨.hbm, 164, rfl⟩
abbrev main_call11_c_0 : Ref sig .tc := ⟨.hbm, 165, rfl⟩
abbrev main_call11_v2 : Ref sig .tc := ⟨.hbm, 166, rfl⟩
abbrev main_call11_v3 : Ref sig .tc := ⟨.hbm, 167, rfl⟩
abbrev main_call11_v4 : Ref sig .tc := ⟨.hbm, 168, rfl⟩
abbrev main_call11_c_1 : Ref sig .tc := ⟨.hbm, 169, rfl⟩
abbrev main_call11_v5 : Ref sig .tc := ⟨.hbm, 170, rfl⟩
abbrev main_call11_v6 : Ref sig .tc := ⟨.hbm, 171, rfl⟩
abbrev main_call11_c_2 : Ref sig .tc := ⟨.hbm, 172, rfl⟩
abbrev main_call11_v7 : Ref sig .tc := ⟨.hbm, 173, rfl⟩
abbrev main_call11_v8 : Ref sig .tc := ⟨.hbm, 174, rfl⟩
abbrev main_call11_c_3 : Ref sig .tc := ⟨.hbm, 175, rfl⟩
abbrev main_call11_v9 : Ref sig .tc := ⟨.hbm, 176, rfl⟩
abbrev main_call11_v10 : Ref sig .tc := ⟨.hbm, 177, rfl⟩
abbrev main_call11_v11 : Ref sig .tc := ⟨.hbm, 178, rfl⟩
abbrev main_call11_v12 : Ref sig .tc := ⟨.hbm, 179, rfl⟩
abbrev main_call11_v13 : Ref sig .tc := ⟨.hbm, 180, rfl⟩
abbrev main_call11_v14 : Ref sig .tc := ⟨.hbm, 181, rfl⟩
abbrev main_v71 : Ref sig .tc := ⟨.hbm, 182, rfl⟩
abbrev main_c_29 : Ref sig .tc := ⟨.hbm, 183, rfl⟩
abbrev main_v72 : Ref sig .tc := ⟨.hbm, 184, rfl⟩
abbrev main_v73 : Ref sig .tc := ⟨.hbm, 185, rfl⟩
abbrev main_c_30 : Ref sig .tc := ⟨.hbm, 186, rfl⟩
abbrev main_v74 : Ref sig .tc := ⟨.hbm, 187, rfl⟩
abbrev main_v75 : Ref sig .tc := ⟨.hbm, 188, rfl⟩
abbrev main_c_31 : Ref sig .tc := ⟨.hbm, 189, rfl⟩
abbrev main_v76 : Ref sig .tc := ⟨.hbm, 190, rfl⟩
abbrev main_v77 : Ref sig .tc := ⟨.hbm, 191, rfl⟩
abbrev main_c_32 : Ref sig .tc := ⟨.hbm, 192, rfl⟩
abbrev main_v78 : Ref sig .tc := ⟨.hbm, 193, rfl⟩
abbrev main_v79 : Ref sig .tc := ⟨.hbm, 194, rfl⟩
abbrev main_c_33 : Ref sig .tc := ⟨.hbm, 195, rfl⟩
abbrev main_call12_v0 : Ref sig .tc := ⟨.hbm, 196, rfl⟩
abbrev main_call12_c : Ref sig .tc := ⟨.hbm, 197, rfl⟩
abbrev main_call12_v1 : Ref sig .tc := ⟨.hbm, 198, rfl⟩
abbrev main_call12_c_0 : Ref sig .tc := ⟨.hbm, 199, rfl⟩
abbrev main_call12_v2 : Ref sig .tc := ⟨.hbm, 200, rfl⟩
abbrev main_call12_v3 : Ref sig .tc := ⟨.hbm, 201, rfl⟩
abbrev main_call12_v4 : Ref sig .tc := ⟨.hbm, 202, rfl⟩
abbrev main_call12_c_1 : Ref sig .tc := ⟨.hbm, 203, rfl⟩
abbrev main_call12_v5 : Ref sig .tc := ⟨.hbm, 204, rfl⟩
abbrev main_call12_v6 : Ref sig .tc := ⟨.hbm, 205, rfl⟩
abbrev main_call12_c_2 : Ref sig .tc := ⟨.hbm, 206, rfl⟩
abbrev main_call12_v7 : Ref sig .tc := ⟨.hbm, 207, rfl⟩
abbrev main_call12_v8 : Ref sig .tc := ⟨.hbm, 208, rfl⟩
abbrev main_call12_c_3 : Ref sig .tc := ⟨.hbm, 209, rfl⟩
abbrev main_call12_v9 : Ref sig .tc := ⟨.hbm, 210, rfl⟩
abbrev main_call12_v10 : Ref sig .tc := ⟨.hbm, 211, rfl⟩
abbrev main_call12_v11 : Ref sig .tc := ⟨.hbm, 212, rfl⟩
abbrev main_call12_v12 : Ref sig .tc := ⟨.hbm, 213, rfl⟩
abbrev main_call12_v13 : Ref sig .tc := ⟨.hbm, 214, rfl⟩
abbrev main_call12_v14 : Ref sig .tc := ⟨.hbm, 215, rfl⟩
abbrev main_v80 : Ref sig .tc := ⟨.hbm, 216, rfl⟩
abbrev main_c_34 : Ref sig .tc := ⟨.hbm, 217, rfl⟩
abbrev main_v81 : Ref sig .tc := ⟨.hbm, 218, rfl⟩
abbrev main_v82 : Ref sig .tc := ⟨.hbm, 219, rfl⟩
abbrev main_c_35 : Ref sig .tc := ⟨.hbm, 220, rfl⟩
abbrev main_call13_v0 : Ref sig .tc := ⟨.hbm, 221, rfl⟩
abbrev main_call13_c : Ref sig .tc := ⟨.hbm, 222, rfl⟩
abbrev main_call13_v1 : Ref sig .tc := ⟨.hbm, 223, rfl⟩
abbrev main_call13_c_0 : Ref sig .tc := ⟨.hbm, 224, rfl⟩
abbrev main_call13_v2 : Ref sig .tc := ⟨.hbm, 225, rfl⟩
abbrev main_call13_v3 : Ref sig .tc := ⟨.hbm, 226, rfl⟩
abbrev main_call13_v4 : Ref sig .tc := ⟨.hbm, 227, rfl⟩
abbrev main_call13_c_1 : Ref sig .tc := ⟨.hbm, 228, rfl⟩
abbrev main_call13_v5 : Ref sig .tc := ⟨.hbm, 229, rfl⟩
abbrev main_call13_v6 : Ref sig .tc := ⟨.hbm, 230, rfl⟩
abbrev main_call13_c_2 : Ref sig .tc := ⟨.hbm, 231, rfl⟩
abbrev main_call13_v7 : Ref sig .tc := ⟨.hbm, 232, rfl⟩
abbrev main_call13_v8 : Ref sig .tc := ⟨.hbm, 233, rfl⟩
abbrev main_call13_c_3 : Ref sig .tc := ⟨.hbm, 234, rfl⟩
abbrev main_call13_v9 : Ref sig .tc := ⟨.hbm, 235, rfl⟩
abbrev main_call13_v10 : Ref sig .tc := ⟨.hbm, 236, rfl⟩
abbrev main_call13_v11 : Ref sig .tc := ⟨.hbm, 237, rfl⟩
abbrev main_call13_v12 : Ref sig .tc := ⟨.hbm, 238, rfl⟩
abbrev main_call13_v13 : Ref sig .tc := ⟨.hbm, 239, rfl⟩
abbrev main_call13_v14 : Ref sig .tc := ⟨.hbm, 240, rfl⟩
abbrev main_v83 : Ref sig .tc := ⟨.hbm, 241, rfl⟩
abbrev main_call14_c : Ref sig .tc := ⟨.hbm, 242, rfl⟩
abbrev main_call14_v0 : Ref sig .tc := ⟨.hbm, 243, rfl⟩
abbrev main_call14_v1 : Ref sig .tc := ⟨.hbm, 244, rfl⟩
abbrev main_call14_c_0 : Ref sig .tc := ⟨.hbm, 245, rfl⟩
abbrev main_call14_v2 : Ref sig .tc := ⟨.hbm, 246, rfl⟩
abbrev main_call14_v3 : Ref sig .tc := ⟨.hbm, 247, rfl⟩
abbrev main_call14_v4 : Ref sig .tc := ⟨.hbm, 248, rfl⟩
abbrev main_call14_v5 : Ref sig .tc := ⟨.hbm, 249, rfl⟩
abbrev main_call14_c_1 : Ref sig .tc := ⟨.hbm, 250, rfl⟩
abbrev main_call14_c_2 : Ref sig .tc := ⟨.hbm, 251, rfl⟩
abbrev main_call14_v6 : Ref sig .tc := ⟨.hbm, 252, rfl⟩
abbrev main_call14_v7 : Ref sig .tc := ⟨.hbm, 253, rfl⟩
abbrev main_call14_v8 : Ref sig .tc := ⟨.hbm, 254, rfl⟩
abbrev main_call14_v9 : Ref sig .tc := ⟨.hbm, 255, rfl⟩
abbrev main_call14_v10 : Ref sig .tc := ⟨.hbm, 256, rfl⟩
abbrev main_call14_v11 : Ref sig .tc := ⟨.hbm, 257, rfl⟩
abbrev main_call14_c_3 : Ref sig .tc := ⟨.hbm, 258, rfl⟩
abbrev main_call14_v12 : Ref sig .tc := ⟨.hbm, 259, rfl⟩
abbrev main_call14_v13 : Ref sig .tc := ⟨.hbm, 260, rfl⟩
abbrev main_call14_cst : Ref sig .tc := ⟨.hbm, 261, rfl⟩
abbrev main_call14_v14 : Ref sig .tc := ⟨.hbm, 262, rfl⟩
abbrev main_v84 : Ref sig .tc := ⟨.hbm, 263, rfl⟩
abbrev main_v85 : Ref sig .tc := ⟨.hbm, 264, rfl⟩
abbrev main_call15_c : Ref sig .tc := ⟨.hbm, 265, rfl⟩
abbrev main_call15_v0 : Ref sig .tc := ⟨.hbm, 266, rfl⟩
abbrev main_call15_v1 : Ref sig .tc := ⟨.hbm, 267, rfl⟩
abbrev main_call15_c_0 : Ref sig .tc := ⟨.hbm, 268, rfl⟩
abbrev main_call15_v2 : Ref sig .tc := ⟨.hbm, 269, rfl⟩
abbrev main_call15_v3 : Ref sig .tc := ⟨.hbm, 270, rfl⟩
abbrev main_call15_v4 : Ref sig .tc := ⟨.hbm, 271, rfl⟩
abbrev main_call15_v5 : Ref sig .tc := ⟨.hbm, 272, rfl⟩
abbrev main_call15_c_1 : Ref sig .tc := ⟨.hbm, 273, rfl⟩
abbrev main_call15_c_2 : Ref sig .tc := ⟨.hbm, 274, rfl⟩
abbrev main_call15_v6 : Ref sig .tc := ⟨.hbm, 275, rfl⟩
abbrev main_call15_v7 : Ref sig .tc := ⟨.hbm, 276, rfl⟩
abbrev main_call15_v8 : Ref sig .tc := ⟨.hbm, 277, rfl⟩
abbrev main_call15_v9 : Ref sig .tc := ⟨.hbm, 278, rfl⟩
abbrev main_call15_v10 : Ref sig .tc := ⟨.hbm, 279, rfl⟩
abbrev main_call15_v11 : Ref sig .tc := ⟨.hbm, 280, rfl⟩
abbrev main_call15_c_3 : Ref sig .tc := ⟨.hbm, 281, rfl⟩
abbrev main_call15_v12 : Ref sig .tc := ⟨.hbm, 282, rfl⟩
abbrev main_call15_v13 : Ref sig .tc := ⟨.hbm, 283, rfl⟩
abbrev main_call15_cst : Ref sig .tc := ⟨.hbm, 284, rfl⟩
abbrev main_call15_v14 : Ref sig .tc := ⟨.hbm, 285, rfl⟩
abbrev main_v86 : Ref sig .tc := ⟨.hbm, 286, rfl⟩
abbrev main_v87 : Ref sig .tc := ⟨.hbm, 287, rfl⟩
abbrev main_call16_c : Ref sig .tc := ⟨.hbm, 288, rfl⟩
abbrev main_call16_v0 : Ref sig .tc := ⟨.hbm, 289, rfl⟩
abbrev main_call16_v1 : Ref sig .tc := ⟨.hbm, 290, rfl⟩
abbrev main_call16_c_0 : Ref sig .tc := ⟨.hbm, 291, rfl⟩
abbrev main_call16_v2 : Ref sig .tc := ⟨.hbm, 292, rfl⟩
abbrev main_call16_v3 : Ref sig .tc := ⟨.hbm, 293, rfl⟩
abbrev main_call16_v4 : Ref sig .tc := ⟨.hbm, 294, rfl⟩
abbrev main_call16_v5 : Ref sig .tc := ⟨.hbm, 295, rfl⟩
abbrev main_call16_c_1 : Ref sig .tc := ⟨.hbm, 296, rfl⟩
abbrev main_call16_c_2 : Ref sig .tc := ⟨.hbm, 297, rfl⟩
abbrev main_call16_v6 : Ref sig .tc := ⟨.hbm, 298, rfl⟩
abbrev main_call16_v7 : Ref sig .tc := ⟨.hbm, 299, rfl⟩
abbrev main_call16_v8 : Ref sig .tc := ⟨.hbm, 300, rfl⟩
abbrev main_call16_v9 : Ref sig .tc := ⟨.hbm, 301, rfl⟩
abbrev main_call16_v10 : Ref sig .tc := ⟨.hbm, 302, rfl⟩
abbrev main_call16_v11 : Ref sig .tc := ⟨.hbm, 303, rfl⟩
abbrev main_call16_c_3 : Ref sig .tc := ⟨.hbm, 304, rfl⟩
abbrev main_call16_v12 : Ref sig .tc := ⟨.hbm, 305, rfl⟩
abbrev main_call16_v13 : Ref sig .tc := ⟨.hbm, 306, rfl⟩
abbrev main_call16_cst : Ref sig .tc := ⟨.hbm, 307, rfl⟩
abbrev main_call16_v14 : Ref sig .tc := ⟨.hbm, 308, rfl⟩
abbrev main_v88 : Ref sig .tc := ⟨.hbm, 309, rfl⟩
abbrev main_v89 : Ref sig .tc := ⟨.hbm, 310, rfl⟩
abbrev main_call17_c : Ref sig .tc := ⟨.hbm, 311, rfl⟩
abbrev main_call17_v0 : Ref sig .tc := ⟨.hbm, 312, rfl⟩
abbrev main_call17_v1 : Ref sig .tc := ⟨.hbm, 313, rfl⟩
abbrev main_call17_c_0 : Ref sig .tc := ⟨.hbm, 314, rfl⟩
abbrev main_call17_v2 : Ref sig .tc := ⟨.hbm, 315, rfl⟩
abbrev main_call17_v3 : Ref sig .tc := ⟨.hbm, 316, rfl⟩
abbrev main_call17_v4 : Ref sig .tc := ⟨.hbm, 317, rfl⟩
abbrev main_call17_v5 : Ref sig .tc := ⟨.hbm, 318, rfl⟩
abbrev main_call17_c_1 : Ref sig .tc := ⟨.hbm, 319, rfl⟩
abbrev main_call17_c_2 : Ref sig .tc := ⟨.hbm, 320, rfl⟩
abbrev main_call17_v6 : Ref sig .tc := ⟨.hbm, 321, rfl⟩
abbrev main_call17_v7 : Ref sig .tc := ⟨.hbm, 322, rfl⟩
abbrev main_call17_v8 : Ref sig .tc := ⟨.hbm, 323, rfl⟩
abbrev main_call17_v9 : Ref sig .tc := ⟨.hbm, 324, rfl⟩
abbrev main_call17_v10 : Ref sig .tc := ⟨.hbm, 325, rfl⟩
abbrev main_call17_v11 : Ref sig .tc := ⟨.hbm, 326, rfl⟩
abbrev main_call17_c_3 : Ref sig .tc := ⟨.hbm, 327, rfl⟩
abbrev main_call17_v12 : Ref sig .tc := ⟨.hbm, 328, rfl⟩
abbrev main_call17_v13 : Ref sig .tc := ⟨.hbm, 329, rfl⟩
abbrev main_call17_cst : Ref sig .tc := ⟨.hbm, 330, rfl⟩
abbrev main_call17_v14 : Ref sig .tc := ⟨.hbm, 331, rfl⟩
abbrev main_v90 : Ref sig .tc := ⟨.hbm, 332, rfl⟩
abbrev main_v91 : Ref sig .tc := ⟨.hbm, 333, rfl⟩
abbrev main_call18_c : Ref sig .tc := ⟨.hbm, 334, rfl⟩
abbrev main_call18_v0 : Ref sig .tc := ⟨.hbm, 335, rfl⟩
abbrev main_call18_v1 : Ref sig .tc := ⟨.hbm, 336, rfl⟩
abbrev main_call18_c_0 : Ref sig .tc := ⟨.hbm, 337, rfl⟩
abbrev main_call18_v2 : Ref sig .tc := ⟨.hbm, 338, rfl⟩
abbrev main_call18_v3 : Ref sig .tc := ⟨.hbm, 339, rfl⟩
abbrev main_call18_v4 : Ref sig .tc := ⟨.hbm, 340, rfl⟩
abbrev main_call18_v5 : Ref sig .tc := ⟨.hbm, 341, rfl⟩
abbrev main_call18_c_1 : Ref sig .tc := ⟨.hbm, 342, rfl⟩
abbrev main_call18_c_2 : Ref sig .tc := ⟨.hbm, 343, rfl⟩
abbrev main_call18_v6 : Ref sig .tc := ⟨.hbm, 344, rfl⟩
abbrev main_call18_v7 : Ref sig .tc := ⟨.hbm, 345, rfl⟩
abbrev main_call18_v8 : Ref sig .tc := ⟨.hbm, 346, rfl⟩
abbrev main_call18_v9 : Ref sig .tc := ⟨.hbm, 347, rfl⟩
abbrev main_call18_v10 : Ref sig .tc := ⟨.hbm, 348, rfl⟩
abbrev main_call18_v11 : Ref sig .tc := ⟨.hbm, 349, rfl⟩
abbrev main_call18_c_3 : Ref sig .tc := ⟨.hbm, 350, rfl⟩
abbrev main_call18_v12 : Ref sig .tc := ⟨.hbm, 351, rfl⟩
abbrev main_call18_v13 : Ref sig .tc := ⟨.hbm, 352, rfl⟩
abbrev main_call18_cst : Ref sig .tc := ⟨.hbm, 353, rfl⟩
abbrev main_call18_v14 : Ref sig .tc := ⟨.hbm, 354, rfl⟩
abbrev main_v92 : Ref sig .tc := ⟨.hbm, 355, rfl⟩
abbrev main_v93 : Ref sig .tc := ⟨.hbm, 356, rfl⟩
abbrev main_call19_c : Ref sig .tc := ⟨.hbm, 357, rfl⟩
abbrev main_call19_v0 : Ref sig .tc := ⟨.hbm, 358, rfl⟩
abbrev main_call19_v1 : Ref sig .tc := ⟨.hbm, 359, rfl⟩
abbrev main_call19_c_0 : Ref sig .tc := ⟨.hbm, 360, rfl⟩
abbrev main_call19_v2 : Ref sig .tc := ⟨.hbm, 361, rfl⟩
abbrev main_call19_v3 : Ref sig .tc := ⟨.hbm, 362, rfl⟩
abbrev main_call19_v4 : Ref sig .tc := ⟨.hbm, 363, rfl⟩
abbrev main_call19_v5 : Ref sig .tc := ⟨.hbm, 364, rfl⟩
abbrev main_call19_c_1 : Ref sig .tc := ⟨.hbm, 365, rfl⟩
abbrev main_call19_c_2 : Ref sig .tc := ⟨.hbm, 366, rfl⟩
abbrev main_call19_v6 : Ref sig .tc := ⟨.hbm, 367, rfl⟩
abbrev main_call19_v7 : Ref sig .tc := ⟨.hbm, 368, rfl⟩
abbrev main_call19_v8 : Ref sig .tc := ⟨.hbm, 369, rfl⟩
abbrev main_call19_v9 : Ref sig .tc := ⟨.hbm, 370, rfl⟩
abbrev main_call19_v10 : Ref sig .tc := ⟨.hbm, 371, rfl⟩
abbrev main_call19_v11 : Ref sig .tc := ⟨.hbm, 372, rfl⟩
abbrev main_call19_c_3 : Ref sig .tc := ⟨.hbm, 373, rfl⟩
abbrev main_call19_v12 : Ref sig .tc := ⟨.hbm, 374, rfl⟩
abbrev main_call19_v13 : Ref sig .tc := ⟨.hbm, 375, rfl⟩
abbrev main_call19_cst : Ref sig .tc := ⟨.hbm, 376, rfl⟩
abbrev main_call19_v14 : Ref sig .tc := ⟨.hbm, 377, rfl⟩
abbrev main_v94 : Ref sig .tc := ⟨.hbm, 378, rfl⟩
abbrev main_v95 : Ref sig .tc := ⟨.hbm, 379, rfl⟩
abbrev main_call20_c : Ref sig .tc := ⟨.hbm, 380, rfl⟩
abbrev main_call20_v0 : Ref sig .tc := ⟨.hbm, 381, rfl⟩
abbrev main_call20_v1 : Ref sig .tc := ⟨.hbm, 382, rfl⟩
abbrev main_call20_c_0 : Ref sig .tc := ⟨.hbm, 383, rfl⟩
abbrev main_call20_v2 : Ref sig .tc := ⟨.hbm, 384, rfl⟩
abbrev main_call20_v3 : Ref sig .tc := ⟨.hbm, 385, rfl⟩
abbrev main_call20_v4 : Ref sig .tc := ⟨.hbm, 386, rfl⟩
abbrev main_call20_v5 : Ref sig .tc := ⟨.hbm, 387, rfl⟩
abbrev main_call20_c_1 : Ref sig .tc := ⟨.hbm, 388, rfl⟩
abbrev main_call20_c_2 : Ref sig .tc := ⟨.hbm, 389, rfl⟩
abbrev main_call20_v6 : Ref sig .tc := ⟨.hbm, 390, rfl⟩
abbrev main_call20_v7 : Ref sig .tc := ⟨.hbm, 391, rfl⟩
abbrev main_call20_v8 : Ref sig .tc := ⟨.hbm, 392, rfl⟩
abbrev main_call20_v9 : Ref sig .tc := ⟨.hbm, 393, rfl⟩
abbrev main_call20_v10 : Ref sig .tc := ⟨.hbm, 394, rfl⟩
abbrev main_call20_v11 : Ref sig .tc := ⟨.hbm, 395, rfl⟩
abbrev main_call20_c_3 : Ref sig .tc := ⟨.hbm, 396, rfl⟩
abbrev main_call20_v12 : Ref sig .tc := ⟨.hbm, 397, rfl⟩
abbrev main_call20_v13 : Ref sig .tc := ⟨.hbm, 398, rfl⟩
abbrev main_call20_cst : Ref sig .tc := ⟨.hbm, 399, rfl⟩
abbrev main_call20_v14 : Ref sig .tc := ⟨.hbm, 400, rfl⟩
abbrev main_v96 : Ref sig .tc := ⟨.hbm, 401, rfl⟩
abbrev main_v97 : Ref sig .tc := ⟨.hbm, 402, rfl⟩
abbrev main_call21_c : Ref sig .tc := ⟨.hbm, 403, rfl⟩
abbrev main_call21_v0 : Ref sig .tc := ⟨.hbm, 404, rfl⟩
abbrev main_call21_v1 : Ref sig .tc := ⟨.hbm, 405, rfl⟩
abbrev main_call21_c_0 : Ref sig .tc := ⟨.hbm, 406, rfl⟩
abbrev main_call21_v2 : Ref sig .tc := ⟨.hbm, 407, rfl⟩
abbrev main_call21_v3 : Ref sig .tc := ⟨.hbm, 408, rfl⟩
abbrev main_call21_v4 : Ref sig .tc := ⟨.hbm, 409, rfl⟩
abbrev main_call21_v5 : Ref sig .tc := ⟨.hbm, 410, rfl⟩
abbrev main_call21_c_1 : Ref sig .tc := ⟨.hbm, 411, rfl⟩
abbrev main_call21_c_2 : Ref sig .tc := ⟨.hbm, 412, rfl⟩
abbrev main_call21_v6 : Ref sig .tc := ⟨.hbm, 413, rfl⟩
abbrev main_call21_v7 : Ref sig .tc := ⟨.hbm, 414, rfl⟩
abbrev main_call21_v8 : Ref sig .tc := ⟨.hbm, 415, rfl⟩
abbrev main_call21_v9 : Ref sig .tc := ⟨.hbm, 416, rfl⟩
abbrev main_call21_v10 : Ref sig .tc := ⟨.hbm, 417, rfl⟩
abbrev main_call21_v11 : Ref sig .tc := ⟨.hbm, 418, rfl⟩
abbrev main_call21_c_3 : Ref sig .tc := ⟨.hbm, 419, rfl⟩
abbrev main_call21_v12 : Ref sig .tc := ⟨.hbm, 420, rfl⟩
abbrev main_call21_v13 : Ref sig .tc := ⟨.hbm, 421, rfl⟩
abbrev main_call21_cst : Ref sig .tc := ⟨.hbm, 422, rfl⟩
abbrev main_call21_v14 : Ref sig .tc := ⟨.hbm, 423, rfl⟩
abbrev main_v98 : Ref sig .tc := ⟨.hbm, 424, rfl⟩
abbrev main_v99 : Ref sig .tc := ⟨.hbm, 425, rfl⟩
abbrev main_call22_c : Ref sig .tc := ⟨.hbm, 426, rfl⟩
abbrev main_call22_v0 : Ref sig .tc := ⟨.hbm, 427, rfl⟩
abbrev main_call22_v1 : Ref sig .tc := ⟨.hbm, 428, rfl⟩
abbrev main_call22_c_0 : Ref sig .tc := ⟨.hbm, 429, rfl⟩
abbrev main_call22_v2 : Ref sig .tc := ⟨.hbm, 430, rfl⟩
abbrev main_call22_v3 : Ref sig .tc := ⟨.hbm, 431, rfl⟩
abbrev main_call22_v4 : Ref sig .tc := ⟨.hbm, 432, rfl⟩
abbrev main_call22_v5 : Ref sig .tc := ⟨.hbm, 433, rfl⟩
abbrev main_call22_c_1 : Ref sig .tc := ⟨.hbm, 434, rfl⟩
abbrev main_call22_c_2 : Ref sig .tc := ⟨.hbm, 435, rfl⟩
abbrev main_call22_v6 : Ref sig .tc := ⟨.hbm, 436, rfl⟩
abbrev main_call22_v7 : Ref sig .tc := ⟨.hbm, 437, rfl⟩
abbrev main_call22_v8 : Ref sig .tc := ⟨.hbm, 438, rfl⟩
abbrev main_call22_v9 : Ref sig .tc := ⟨.hbm, 439, rfl⟩
abbrev main_call22_v10 : Ref sig .tc := ⟨.hbm, 440, rfl⟩
abbrev main_call22_v11 : Ref sig .tc := ⟨.hbm, 441, rfl⟩
abbrev main_call22_c_3 : Ref sig .tc := ⟨.hbm, 442, rfl⟩
abbrev main_call22_v12 : Ref sig .tc := ⟨.hbm, 443, rfl⟩
abbrev main_call22_v13 : Ref sig .tc := ⟨.hbm, 444, rfl⟩
abbrev main_call22_cst : Ref sig .tc := ⟨.hbm, 445, rfl⟩
abbrev main_call22_v14 : Ref sig .tc := ⟨.hbm, 446, rfl⟩
abbrev main_v100 : Ref sig .tc := ⟨.hbm, 447, rfl⟩
abbrev main_v101 : Ref sig .tc := ⟨.hbm, 448, rfl⟩
abbrev main_call23_c : Ref sig .tc := ⟨.hbm, 449, rfl⟩
abbrev main_call23_v0 : Ref sig .tc := ⟨.hbm, 450, rfl⟩
abbrev main_call23_v1 : Ref sig .tc := ⟨.hbm, 451, rfl⟩
abbrev main_call23_c_0 : Ref sig .tc := ⟨.hbm, 452, rfl⟩
abbrev main_call23_v2 : Ref sig .tc := ⟨.hbm, 453, rfl⟩
abbrev main_call23_v3 : Ref sig .tc := ⟨.hbm, 454, rfl⟩
abbrev main_call23_v4 : Ref sig .tc := ⟨.hbm, 455, rfl⟩
abbrev main_call23_v5 : Ref sig .tc := ⟨.hbm, 456, rfl⟩
abbrev main_call23_c_1 : Ref sig .tc := ⟨.hbm, 457, rfl⟩
abbrev main_call23_c_2 : Ref sig .tc := ⟨.hbm, 458, rfl⟩
abbrev main_call23_v6 : Ref sig .tc := ⟨.hbm, 459, rfl⟩
abbrev main_call23_v7 : Ref sig .tc := ⟨.hbm, 460, rfl⟩
abbrev main_call23_v8 : Ref sig .tc := ⟨.hbm, 461, rfl⟩
abbrev main_call23_v9 : Ref sig .tc := ⟨.hbm, 462, rfl⟩
abbrev main_call23_v10 : Ref sig .tc := ⟨.hbm, 463, rfl⟩
abbrev main_call23_v11 : Ref sig .tc := ⟨.hbm, 464, rfl⟩
abbrev main_call23_c_3 : Ref sig .tc := ⟨.hbm, 465, rfl⟩
abbrev main_call23_v12 : Ref sig .tc := ⟨.hbm, 466, rfl⟩
abbrev main_call23_v13 : Ref sig .tc := ⟨.hbm, 467, rfl⟩
abbrev main_call23_cst : Ref sig .tc := ⟨.hbm, 468, rfl⟩
abbrev main_call23_v14 : Ref sig .tc := ⟨.hbm, 469, rfl⟩
abbrev main_v102 : Ref sig .tc := ⟨.hbm, 470, rfl⟩
abbrev main_v103 : Ref sig .tc := ⟨.hbm, 471, rfl⟩
abbrev main_v104 : Ref sig .tc := ⟨.hbm, 472, rfl⟩
abbrev main_v105 : Ref sig .tc := ⟨.hbm, 473, rfl⟩
abbrev main_v106 : Ref sig .tc := ⟨.hbm, 474, rfl⟩
abbrev main_v107 : Ref sig .tc := ⟨.hbm, 475, rfl⟩
abbrev main_v108 : Ref sig .tc := ⟨.hbm, 476, rfl⟩
abbrev main_cst_36 : Ref sig .tc := ⟨.hbm, 477, rfl⟩
abbrev main_v109 : Ref sig .tc := ⟨.hbm, 478, rfl⟩
abbrev main_v110 : Ref sig .tc := ⟨.hbm, 479, rfl⟩
abbrev main_v111 : Ref sig .tc := ⟨.hbm, 480, rfl⟩
abbrev main_v112 : Ref sig .tc := ⟨.hbm, 481, rfl⟩
abbrev main_v113 : Ref sig .tc := ⟨.hbm, 482, rfl⟩
abbrev main_v114 : Ref sig .tc := ⟨.hbm, 483, rfl⟩
abbrev main_v115 : Ref sig .tc := ⟨.hbm, 484, rfl⟩
abbrev main_v116 : Ref sig .tc := ⟨.hbm, 485, rfl⟩
abbrev main_cst_37 : Ref sig .tc := ⟨.hbm, 486, rfl⟩
abbrev main_v117 : Ref sig .tc := ⟨.hbm, 487, rfl⟩
abbrev main_v118 : Ref sig .tc := ⟨.hbm, 488, rfl⟩
abbrev main_v119 : Ref sig .tc := ⟨.hbm, 489, rfl⟩
abbrev main_v120 : Ref sig .tc := ⟨.hbm, 490, rfl⟩
abbrev main_v121 : Ref sig .tc := ⟨.hbm, 491, rfl⟩
abbrev main_v122 : Ref sig .tc := ⟨.hbm, 492, rfl⟩
abbrev main_v123 : Ref sig .tc := ⟨.hbm, 493, rfl⟩
abbrev main_cst_38 : Ref sig .tc := ⟨.hbm, 494, rfl⟩
abbrev main_v124 : Ref sig .tc := ⟨.hbm, 495, rfl⟩
abbrev main_v125 : Ref sig .tc := ⟨.hbm, 496, rfl⟩
abbrev main_v126 : Ref sig .tc := ⟨.hbm, 497, rfl⟩
abbrev main_v127 : Ref sig .tc := ⟨.hbm, 498, rfl⟩
abbrev main_v128 : Ref sig .tc := ⟨.hbm, 499, rfl⟩
abbrev main_v129 : Ref sig .tc := ⟨.hbm, 500, rfl⟩
abbrev main_v130 : Ref sig .tc := ⟨.hbm, 501, rfl⟩
abbrev main_v131 : Ref sig .tc := ⟨.hbm, 502, rfl⟩
abbrev main_cst_39 : Ref sig .tc := ⟨.hbm, 503, rfl⟩
abbrev main_v132 : Ref sig .tc := ⟨.hbm, 504, rfl⟩
abbrev main_v133 : Ref sig .tc := ⟨.hbm, 505, rfl⟩
abbrev main_v134 : Ref sig .tc := ⟨.hbm, 506, rfl⟩
abbrev main_v135 : Ref sig .tc := ⟨.hbm, 507, rfl⟩
abbrev main_v136 : Ref sig .tc := ⟨.hbm, 508, rfl⟩
abbrev main_v137 : Ref sig .tc := ⟨.hbm, 509, rfl⟩
abbrev main_v138 : Ref sig .tc := ⟨.hbm, 510, rfl⟩
abbrev main_v139 : Ref sig .tc := ⟨.hbm, 511, rfl⟩
abbrev main_v140 : Ref sig .tc := ⟨.hbm, 512, rfl⟩
abbrev main_v141 : Ref sig .tc := ⟨.hbm, 513, rfl⟩
abbrev main_cst_40 : Ref sig .tc := ⟨.hbm, 514, rfl⟩
abbrev main_v142 : Ref sig .tc := ⟨.hbm, 515, rfl⟩
abbrev main_v143 : Ref sig .tc := ⟨.hbm, 516, rfl⟩
abbrev main_v144 : Ref sig .tc := ⟨.hbm, 517, rfl⟩
abbrev main_v145 : Ref sig .tc := ⟨.hbm, 518, rfl⟩
abbrev main_v146 : Ref sig .tc := ⟨.hbm, 519, rfl⟩
abbrev main_v147 : Ref sig .tc := ⟨.hbm, 520, rfl⟩
abbrev main_v148 : Ref sig .tc := ⟨.hbm, 521, rfl⟩
abbrev main_cst_41 : Ref sig .tc := ⟨.hbm, 522, rfl⟩
abbrev main_v149 : Ref sig .tc := ⟨.hbm, 523, rfl⟩
abbrev main_v150 : Ref sig .tc := ⟨.hbm, 524, rfl⟩
abbrev main_v151 : Ref sig .tc := ⟨.hbm, 525, rfl⟩
abbrev main_v152 : Ref sig .tc := ⟨.hbm, 526, rfl⟩
abbrev main_v153 : Ref sig .tc := ⟨.hbm, 527, rfl⟩
abbrev main_v154 : Ref sig .tc := ⟨.hbm, 528, rfl⟩
abbrev main_v155 : Ref sig .tc := ⟨.hbm, 529, rfl⟩
abbrev main_v156 : Ref sig .tc := ⟨.hbm, 530, rfl⟩
abbrev main_cst_42 : Ref sig .tc := ⟨.hbm, 531, rfl⟩
abbrev main_v157 : Ref sig .tc := ⟨.hbm, 532, rfl⟩
abbrev main_v158 : Ref sig .tc := ⟨.hbm, 533, rfl⟩
abbrev main_v159 : Ref sig .tc := ⟨.hbm, 534, rfl⟩
abbrev main_v160 : Ref sig .tc := ⟨.hbm, 535, rfl⟩
abbrev main_v161 : Ref sig .tc := ⟨.hbm, 536, rfl⟩
abbrev main_v162 : Ref sig .tc := ⟨.hbm, 537, rfl⟩
abbrev main_v163 : Ref sig .tc := ⟨.hbm, 538, rfl⟩
abbrev main_v164 : Ref sig .tc := ⟨.hbm, 539, rfl⟩
abbrev main_v165 : Ref sig .tc := ⟨.hbm, 540, rfl⟩
abbrev main_v166 : Ref sig .tc := ⟨.hbm, 541, rfl⟩
abbrev main_cst_43 : Ref sig .tc := ⟨.hbm, 542, rfl⟩
abbrev main_v167 : Ref sig .tc := ⟨.hbm, 543, rfl⟩
abbrev main_v168 : Ref sig .tc := ⟨.hbm, 544, rfl⟩
abbrev main_v169 : Ref sig .tc := ⟨.hbm, 545, rfl⟩
abbrev main_v170 : Ref sig .tc := ⟨.hbm, 546, rfl⟩
abbrev main_cst_44 : Ref sig .tc := ⟨.hbm, 547, rfl⟩
abbrev main_v171 : Ref sig .tc := ⟨.hbm, 548, rfl⟩
abbrev main_v172 : Ref sig .tc := ⟨.hbm, 549, rfl⟩
abbrev main_v173 : Ref sig .tc := ⟨.hbm, 550, rfl⟩
abbrev main_v174 : Ref sig .tc := ⟨.hbm, 551, rfl⟩
abbrev main_v175 : Ref sig .tc := ⟨.hbm, 552, rfl⟩
abbrev main_v176 : Ref sig .tc := ⟨.hbm, 553, rfl⟩
abbrev main_v177 : Ref sig .tc := ⟨.hbm, 554, rfl⟩
abbrev main_v178 : Ref sig .tc := ⟨.hbm, 555, rfl⟩
abbrev main_v179 : Ref sig .tc := ⟨.hbm, 556, rfl⟩
abbrev main_cst_45 : Ref sig .tc := ⟨.hbm, 557, rfl⟩
abbrev main_v180 : Ref sig .tc := ⟨.hbm, 558, rfl⟩
abbrev main_v181 : Ref sig .tc := ⟨.hbm, 559, rfl⟩
abbrev main_v182 : Ref sig .tc := ⟨.hbm, 560, rfl⟩
abbrev main_v183 : Ref sig .tc := ⟨.hbm, 561, rfl⟩
abbrev main_v184 : Ref sig .tc := ⟨.hbm, 562, rfl⟩
abbrev main_v185 : Ref sig .tc := ⟨.hbm, 563, rfl⟩
abbrev main_v186 : Ref sig .tc := ⟨.hbm, 564, rfl⟩
abbrev main_v187 : Ref sig .tc := ⟨.hbm, 565, rfl⟩
abbrev main_v188 : Ref sig .tc := ⟨.hbm, 566, rfl⟩
abbrev main_v189 : Ref sig .tc := ⟨.hbm, 567, rfl⟩
abbrev main_v190 : Ref sig .tc := ⟨.hbm, 568, rfl⟩
abbrev main_v191 : Ref sig .tc := ⟨.hbm, 569, rfl⟩
abbrev main_v192 : Ref sig .tc := ⟨.hbm, 570, rfl⟩
abbrev main_v193 : Ref sig .tc := ⟨.hbm, 571, rfl⟩
abbrev main_v194 : Ref sig .tc := ⟨.hbm, 572, rfl⟩
abbrev main_v195 : Ref sig .tc := ⟨.hbm, 573, rfl⟩
abbrev main_v196 : Ref sig .tc := ⟨.hbm, 574, rfl⟩
abbrev main_v197 : Ref sig .tc := ⟨.hbm, 575, rfl⟩
abbrev main_cst_46 : Ref sig .tc := ⟨.hbm, 576, rfl⟩
abbrev main_v198 : Ref sig .tc := ⟨.hbm, 577, rfl⟩
abbrev main_v199 : Ref sig .tc := ⟨.hbm, 578, rfl⟩
abbrev main_v200 : Ref sig .tc := ⟨.hbm, 579, rfl⟩
abbrev main_v201 : Ref sig .tc := ⟨.hbm, 580, rfl⟩
abbrev main_v202 : Ref sig .tc := ⟨.hbm, 581, rfl⟩
abbrev main_v203 : Ref sig .tc := ⟨.hbm, 582, rfl⟩
abbrev main_v204 : Ref sig .tc := ⟨.hbm, 583, rfl⟩
abbrev main_v205 : Ref sig .tc := ⟨.hbm, 584, rfl⟩
abbrev main_v206 : Ref sig .tc := ⟨.hbm, 585, rfl⟩
abbrev main_v207 : Ref sig .tc := ⟨.hbm, 586, rfl⟩
abbrev main_v208 : Ref sig .tc := ⟨.hbm, 587, rfl⟩
abbrev main_v209 : Ref sig .tc := ⟨.hbm, 588, rfl⟩
abbrev main_cst_47 : Ref sig .tc := ⟨.hbm, 589, rfl⟩
abbrev main_v210 : Ref sig .tc := ⟨.hbm, 590, rfl⟩
abbrev main_v211 : Ref sig .tc := ⟨.hbm, 591, rfl⟩
abbrev main_v212 : Ref sig .tc := ⟨.hbm, 592, rfl⟩
abbrev main_v213 : Ref sig .tc := ⟨.hbm, 593, rfl⟩
abbrev main_v214 : Ref sig .tc := ⟨.hbm, 594, rfl⟩
abbrev main_v215 : Ref sig .tc := ⟨.hbm, 595, rfl⟩
abbrev main_v216 : Ref sig .tc := ⟨.hbm, 596, rfl⟩
abbrev main_v217 : Ref sig .tc := ⟨.hbm, 597, rfl⟩
abbrev main_v218 : Ref sig .tc := ⟨.hbm, 598, rfl⟩
abbrev main_cst_48 : Ref sig .tc := ⟨.hbm, 599, rfl⟩
abbrev main_v219 : Ref sig .tc := ⟨.hbm, 600, rfl⟩
abbrev main_v220 : Ref sig .tc := ⟨.hbm, 601, rfl⟩
abbrev main_v221 : Ref sig .tc := ⟨.hbm, 602, rfl⟩
abbrev main_v222 : Ref sig .tc := ⟨.hbm, 603, rfl⟩
abbrev main_v223 : Ref sig .tc := ⟨.hbm, 604, rfl⟩
abbrev main_v224 : Ref sig .tc := ⟨.hbm, 605, rfl⟩
abbrev main_v225 : Ref sig .tc := ⟨.hbm, 606, rfl⟩
abbrev main_v226 : Ref sig .tc := ⟨.hbm, 607, rfl⟩
abbrev main_v227 : Ref sig .tc := ⟨.hbm, 608, rfl⟩
abbrev main_v228 : Ref sig .tc := ⟨.hbm, 609, rfl⟩
abbrev main_v229 : Ref sig .tc := ⟨.hbm, 610, rfl⟩
abbrev main_v230 : Ref sig .tc := ⟨.hbm, 611, rfl⟩
abbrev main_v231 : Ref sig .tc := ⟨.hbm, 612, rfl⟩
abbrev main_v232 : Ref sig .tc := ⟨.hbm, 613, rfl⟩
abbrev main_v233 : Ref sig .tc := ⟨.hbm, 614, rfl⟩
abbrev main_v234 : Ref sig .tc := ⟨.hbm, 615, rfl⟩
abbrev main_v235 : Ref sig .tc := ⟨.hbm, 616, rfl⟩
abbrev main_v236 : Ref sig .tc := ⟨.hbm, 617, rfl⟩
abbrev main_v237 : Ref sig .tc := ⟨.hbm, 618, rfl⟩
abbrev main_v238 : Ref sig .tc := ⟨.hbm, 619, rfl⟩
abbrev main_v239 : Ref sig .tc := ⟨.hbm, 620, rfl⟩
abbrev main_v240 : Ref sig .tc := ⟨.hbm, 621, rfl⟩
abbrev main_cst_49 : Ref sig .tc := ⟨.hbm, 622, rfl⟩
abbrev main_v241 : Ref sig .tc := ⟨.hbm, 623, rfl⟩
abbrev main_v242 : Ref sig .tc := ⟨.hbm, 624, rfl⟩
abbrev main_v243 : Ref sig .tc := ⟨.hbm, 625, rfl⟩
abbrev main_v244 : Ref sig .tc := ⟨.hbm, 626, rfl⟩
abbrev main_v245 : Ref sig .tc := ⟨.hbm, 627, rfl⟩
abbrev main_v246 : Ref sig .tc := ⟨.hbm, 628, rfl⟩
abbrev main_v247 : Ref sig .tc := ⟨.hbm, 629, rfl⟩
abbrev main_v248 : Ref sig .tc := ⟨.hbm, 630, rfl⟩
abbrev main_v249 : Ref sig .tc := ⟨.hbm, 631, rfl⟩
abbrev main_v250 : Ref sig .tc := ⟨.hbm, 632, rfl⟩
abbrev main_cst_50 : Ref sig .tc := ⟨.hbm, 633, rfl⟩
abbrev main_v251 : Ref sig .tc := ⟨.hbm, 634, rfl⟩
abbrev main_v252 : Ref sig .tc := ⟨.hbm, 635, rfl⟩
abbrev main_v253 : Ref sig .tc := ⟨.hbm, 636, rfl⟩
abbrev main_v254 : Ref sig .tc := ⟨.hbm, 637, rfl⟩
abbrev main_v255 : Ref sig .tc := ⟨.hbm, 638, rfl⟩
abbrev main_v256 : Ref sig .tc := ⟨.hbm, 639, rfl⟩
abbrev main_v257 : Ref sig .tc := ⟨.hbm, 640, rfl⟩
abbrev main_v258 : Ref sig .tc := ⟨.hbm, 641, rfl⟩
abbrev main_v259 : Ref sig .tc := ⟨.hbm, 642, rfl⟩
abbrev main_v260 : Ref sig .tc := ⟨.hbm, 643, rfl⟩
abbrev main_v261 : Ref sig .tc := ⟨.hbm, 644, rfl⟩
abbrev main_v262 : Ref sig .tc := ⟨.hbm, 645, rfl⟩
abbrev main_cst_51 : Ref sig .tc := ⟨.hbm, 646, rfl⟩
abbrev main_v263 : Ref sig .tc := ⟨.hbm, 647, rfl⟩
abbrev main_v264 : Ref sig .tc := ⟨.hbm, 648, rfl⟩
abbrev main_v265 : Ref sig .tc := ⟨.hbm, 649, rfl⟩
abbrev main_v266 : Ref sig .tc := ⟨.hbm, 650, rfl⟩
abbrev main_v267 : Ref sig .tc := ⟨.hbm, 651, rfl⟩
abbrev main_v268 : Ref sig .tc := ⟨.hbm, 652, rfl⟩
abbrev main_v269 : Ref sig .tc := ⟨.hbm, 653, rfl⟩
abbrev main_v270 : Ref sig .tc := ⟨.hbm, 654, rfl⟩
abbrev main_v271 : Ref sig .tc := ⟨.hbm, 655, rfl⟩
abbrev main_v272 : Ref sig .tc := ⟨.hbm, 656, rfl⟩
abbrev main_v273 : Ref sig .tc := ⟨.hbm, 657, rfl⟩
abbrev main_v274 : Ref sig .tc := ⟨.hbm, 658, rfl⟩
abbrev main_v275 : Ref sig .tc := ⟨.hbm, 659, rfl⟩
abbrev main_v276 : Ref sig .tc := ⟨.hbm, 660, rfl⟩
abbrev main_v277 : Ref sig .tc := ⟨.hbm, 661, rfl⟩
abbrev main_v278 : Ref sig .tc := ⟨.hbm, 662, rfl⟩
abbrev main_v279 : Ref sig .tc := ⟨.hbm, 663, rfl⟩
abbrev main_v280 : Ref sig .tc := ⟨.hbm, 664, rfl⟩
abbrev main_v281 : Ref sig .tc := ⟨.hbm, 665, rfl⟩
abbrev main_v282 : Ref sig .tc := ⟨.hbm, 666, rfl⟩
abbrev main_v283 : Ref sig .tc := ⟨.hbm, 667, rfl⟩
abbrev main_v284 : Ref sig .tc := ⟨.hbm, 668, rfl⟩
abbrev main_v285 : Ref sig .tc := ⟨.hbm, 669, rfl⟩
abbrev main_v286 : Ref sig .tc := ⟨.hbm, 670, rfl⟩
abbrev main_v287 : Ref sig .tc := ⟨.hbm, 671, rfl⟩
abbrev main_cst_52 : Ref sig .tc := ⟨.hbm, 672, rfl⟩
abbrev main_v288 : Ref sig .tc := ⟨.hbm, 673, rfl⟩
abbrev main_v289 : Ref sig .tc := ⟨.hbm, 674, rfl⟩
abbrev main_v290 : Ref sig .tc := ⟨.hbm, 675, rfl⟩
abbrev main_v291 : Ref sig .tc := ⟨.hbm, 676, rfl⟩
abbrev main_v292 : Ref sig .tc := ⟨.hbm, 677, rfl⟩
abbrev main_v293 : Ref sig .tc := ⟨.hbm, 678, rfl⟩
abbrev main_v294 : Ref sig .tc := ⟨.hbm, 679, rfl⟩
abbrev main_v295 : Ref sig .tc := ⟨.hbm, 680, rfl⟩
abbrev main_v296 : Ref sig .tc := ⟨.hbm, 681, rfl⟩
abbrev main_v297 : Ref sig .tc := ⟨.hbm, 682, rfl⟩
abbrev main_v298 : Ref sig .tc := ⟨.hbm, 683, rfl⟩
abbrev main_v299 : Ref sig .tc := ⟨.hbm, 684, rfl⟩
abbrev main_v300 : Ref sig .tc := ⟨.hbm, 685, rfl⟩
abbrev main_v301 : Ref sig .tc := ⟨.hbm, 686, rfl⟩
abbrev main_cst_53 : Ref sig .tc := ⟨.hbm, 687, rfl⟩
abbrev main_v302 : Ref sig .tc := ⟨.hbm, 688, rfl⟩
abbrev main_v303 : Ref sig .tc := ⟨.hbm, 689, rfl⟩
abbrev main_v304 : Ref sig .tc := ⟨.hbm, 690, rfl⟩
abbrev main_v305 : Ref sig .tc := ⟨.hbm, 691, rfl⟩
abbrev main_v306 : Ref sig .tc := ⟨.hbm, 692, rfl⟩
abbrev main_v307 : Ref sig .tc := ⟨.hbm, 693, rfl⟩
abbrev main_v308 : Ref sig .tc := ⟨.hbm, 694, rfl⟩
abbrev main_v309 : Ref sig .tc := ⟨.hbm, 695, rfl⟩
abbrev main_v310 : Ref sig .tc := ⟨.hbm, 696, rfl⟩
abbrev main_v311 : Ref sig .tc := ⟨.hbm, 697, rfl⟩
abbrev main_v312 : Ref sig .tc := ⟨.hbm, 698, rfl⟩
abbrev main_cst_54 : Ref sig .tc := ⟨.hbm, 699, rfl⟩
abbrev main_v313 : Ref sig .tc := ⟨.hbm, 700, rfl⟩
abbrev main_v314 : Ref sig .tc := ⟨.hbm, 701, rfl⟩
abbrev main_v315 : Ref sig .tc := ⟨.hbm, 702, rfl⟩
abbrev main_v316 : Ref sig .tc := ⟨.hbm, 703, rfl⟩
abbrev main_v317 : Ref sig .tc := ⟨.hbm, 704, rfl⟩
abbrev main_v318 : Ref sig .tc := ⟨.hbm, 705, rfl⟩
abbrev main_v319 : Ref sig .tc := ⟨.hbm, 706, rfl⟩
abbrev main_v320 : Ref sig .tc := ⟨.hbm, 707, rfl⟩
abbrev main_v321 : Ref sig .tc := ⟨.hbm, 708, rfl⟩
abbrev main_v322 : Ref sig .tc := ⟨.hbm, 709, rfl⟩
abbrev main_v323 : Ref sig .tc := ⟨.hbm, 710, rfl⟩
abbrev main_v324 : Ref sig .tc := ⟨.hbm, 711, rfl⟩
abbrev main_v325 : Ref sig .tc := ⟨.hbm, 712, rfl⟩
abbrev main_v326 : Ref sig .tc := ⟨.hbm, 713, rfl⟩
abbrev main_v327 : Ref sig .tc := ⟨.hbm, 714, rfl⟩
abbrev main_v328 : Ref sig .tc := ⟨.hbm, 715, rfl⟩
abbrev main_v329 : Ref sig .tc := ⟨.hbm, 716, rfl⟩
abbrev main_v330 : Ref sig .tc := ⟨.hbm, 717, rfl⟩
abbrev main_v331 : Ref sig .tc := ⟨.hbm, 718, rfl⟩
abbrev main_v332 : Ref sig .tc := ⟨.hbm, 719, rfl⟩
abbrev main_v333 : Ref sig .tc := ⟨.hbm, 720, rfl⟩
abbrev main_v334 : Ref sig .tc := ⟨.hbm, 721, rfl⟩
abbrev main_v335 : Ref sig .tc := ⟨.hbm, 722, rfl⟩
abbrev main_v336 : Ref sig .tc := ⟨.hbm, 723, rfl⟩
abbrev main_v337 : Ref sig .tc := ⟨.hbm, 724, rfl⟩
abbrev main_cst_55 : Ref sig .tc := ⟨.hbm, 725, rfl⟩
abbrev main_v338 : Ref sig .tc := ⟨.hbm, 726, rfl⟩
abbrev main_v339 : Ref sig .tc := ⟨.hbm, 727, rfl⟩
abbrev main_v340 : Ref sig .tc := ⟨.hbm, 728, rfl⟩
abbrev main_v341 : Ref sig .tc := ⟨.hbm, 729, rfl⟩
abbrev main_v342 : Ref sig .tc := ⟨.hbm, 730, rfl⟩
abbrev main_v343 : Ref sig .tc := ⟨.hbm, 731, rfl⟩
abbrev main_v344 : Ref sig .tc := ⟨.hbm, 732, rfl⟩
abbrev main_v345 : Ref sig .tc := ⟨.hbm, 733, rfl⟩
abbrev main_v346 : Ref sig .tc := ⟨.hbm, 734, rfl⟩
abbrev main_v347 : Ref sig .tc := ⟨.hbm, 735, rfl⟩
abbrev main_v348 : Ref sig .tc := ⟨.hbm, 736, rfl⟩
abbrev main_v349 : Ref sig .tc := ⟨.hbm, 737, rfl⟩
abbrev main_v350 : Ref sig .tc := ⟨.hbm, 738, rfl⟩
abbrev main_v351 : Ref sig .tc := ⟨.hbm, 739, rfl⟩
abbrev main_v352 : Ref sig .tc := ⟨.hbm, 740, rfl⟩
abbrev main_v353 : Ref sig .tc := ⟨.hbm, 741, rfl⟩
abbrev main_v354 : Ref sig .tc := ⟨.hbm, 742, rfl⟩
abbrev main_v355 : Ref sig .tc := ⟨.hbm, 743, rfl⟩
abbrev main_v356 : Ref sig .tc := ⟨.hbm, 744, rfl⟩
abbrev main_v357 : Ref sig .tc := ⟨.hbm, 745, rfl⟩
abbrev main_v358 : Ref sig .tc := ⟨.hbm, 746, rfl⟩
abbrev main_v359 : Ref sig .tc := ⟨.hbm, 747, rfl⟩
abbrev main_v360 : Ref sig .tc := ⟨.hbm, 748, rfl⟩
abbrev main_v361 : Ref sig .tc := ⟨.hbm, 749, rfl⟩
abbrev main_v362 : Ref sig .tc := ⟨.hbm, 750, rfl⟩
abbrev main_v363 : Ref sig .tc := ⟨.hbm, 751, rfl⟩
abbrev main_v364 : Ref sig .tc := ⟨.hbm, 752, rfl⟩
abbrev main_v365 : Ref sig .tc := ⟨.hbm, 753, rfl⟩
abbrev main_v366 : Ref sig .tc := ⟨.hbm, 754, rfl⟩
abbrev main_v367 : Ref sig .tc := ⟨.hbm, 755, rfl⟩
abbrev main_v368 : Ref sig .tc := ⟨.hbm, 756, rfl⟩
abbrev main_v369 : Ref sig .tc := ⟨.hbm, 757, rfl⟩
abbrev main_v370 : Ref sig .tc := ⟨.hbm, 758, rfl⟩
abbrev main_v371 : Ref sig .tc := ⟨.hbm, 759, rfl⟩
abbrev main_v372 : Ref sig .tc := ⟨.hbm, 760, rfl⟩
abbrev main_v373 : Ref sig .tc := ⟨.hbm, 761, rfl⟩
abbrev main_v374 : Ref sig .tc := ⟨.hbm, 762, rfl⟩
abbrev main_v375 : Ref sig .tc := ⟨.hbm, 763, rfl⟩
abbrev main_v376 : Ref sig .tc := ⟨.hbm, 764, rfl⟩
abbrev main_v377 : Ref sig .tc := ⟨.hbm, 765, rfl⟩
abbrev main_v378 : Ref sig .tc := ⟨.hbm, 766, rfl⟩
abbrev main_v379 : Ref sig .tc := ⟨.hbm, 767, rfl⟩
abbrev main_v380 : Ref sig .tc := ⟨.hbm, 768, rfl⟩
abbrev main_v381 : Ref sig .tc := ⟨.hbm, 769, rfl⟩
abbrev main_v382 : Ref sig .tc := ⟨.hbm, 770, rfl⟩
abbrev main_v383 : Ref sig .tc := ⟨.hbm, 771, rfl⟩
abbrev main_v384 : Ref sig .tc := ⟨.hbm, 772, rfl⟩
abbrev main_v385 : Ref sig .tc := ⟨.hbm, 773, rfl⟩
abbrev main_v386 : Ref sig .tc := ⟨.hbm, 774, rfl⟩
abbrev main_v387 : Ref sig .tc := ⟨.hbm, 775, rfl⟩
abbrev main_v388 : Ref sig .tc := ⟨.hbm, 776, rfl⟩
abbrev main_v389 : Ref sig .tc := ⟨.hbm, 777, rfl⟩
abbrev main_v390 : Ref sig .tc := ⟨.hbm, 778, rfl⟩
abbrev main_v391 : Ref sig .tc := ⟨.hbm, 779, rfl⟩
abbrev main_v392 : Ref sig .tc := ⟨.hbm, 780, rfl⟩
abbrev main_v393 : Ref sig .tc := ⟨.hbm, 781, rfl⟩
abbrev main_v394 : Ref sig .tc := ⟨.hbm, 782, rfl⟩
abbrev main_v395 : Ref sig .tc := ⟨.hbm, 783, rfl⟩
abbrev main_v396 : Ref sig .tc := ⟨.hbm, 784, rfl⟩
abbrev main_v397 : Ref sig .tc := ⟨.hbm, 785, rfl⟩
abbrev main_v398 : Ref sig .tc := ⟨.hbm, 786, rfl⟩
abbrev main_v399 : Ref sig .tc := ⟨.hbm, 787, rfl⟩
abbrev main_v400 : Ref sig .tc := ⟨.hbm, 788, rfl⟩
abbrev main_v401 : Ref sig .tc := ⟨.hbm, 789, rfl⟩
abbrev main_v402 : Ref sig .tc := ⟨.hbm, 790, rfl⟩
abbrev main_v403 : Ref sig .tc := ⟨.hbm, 791, rfl⟩
abbrev main_v404 : Ref sig .tc := ⟨.hbm, 792, rfl⟩
abbrev main_v405 : Ref sig .tc := ⟨.hbm, 793, rfl⟩
abbrev main_v406 : Ref sig .tc := ⟨.hbm, 794, rfl⟩
abbrev main_v407 : Ref sig .tc := ⟨.hbm, 795, rfl⟩
abbrev main_v408 : Ref sig .tc := ⟨.hbm, 796, rfl⟩
abbrev main_v409 : Ref sig .tc := ⟨.hbm, 797, rfl⟩
abbrev main_v410 : Ref sig .tc := ⟨.hbm, 798, rfl⟩
abbrev main_v411 : Ref sig .tc := ⟨.hbm, 799, rfl⟩
abbrev main_v412 : Ref sig .tc := ⟨.hbm, 800, rfl⟩
abbrev main_v413 : Ref sig .tc := ⟨.hbm, 801, rfl⟩
abbrev main_v414 : Ref sig .tc := ⟨.hbm, 802, rfl⟩
abbrev main_v415 : Ref sig .tc := ⟨.hbm, 803, rfl⟩
abbrev main_v416 : Ref sig .tc := ⟨.hbm, 804, rfl⟩
abbrev main_v417 : Ref sig .tc := ⟨.hbm, 805, rfl⟩
abbrev main_v418 : Ref sig .tc := ⟨.hbm, 806, rfl⟩
abbrev main_v419 : Ref sig .tc := ⟨.hbm, 807, rfl⟩
abbrev main_v420 : Ref sig .tc := ⟨.hbm, 808, rfl⟩
abbrev main_v421 : Ref sig .tc := ⟨.hbm, 809, rfl⟩
abbrev main_v422 : Ref sig .tc := ⟨.hbm, 810, rfl⟩
abbrev main_v423 : Ref sig .tc := ⟨.hbm, 811, rfl⟩
abbrev main_v424 : Ref sig .tc := ⟨.hbm, 812, rfl⟩
abbrev main_v425 : Ref sig .tc := ⟨.hbm, 813, rfl⟩
abbrev main_v426 : Ref sig .tc := ⟨.hbm, 814, rfl⟩
abbrev main_v427 : Ref sig .tc := ⟨.hbm, 815, rfl⟩
abbrev main_v428 : Ref sig .tc := ⟨.hbm, 816, rfl⟩
abbrev main_v429 : Ref sig .tc := ⟨.hbm, 817, rfl⟩
abbrev main_v430 : Ref sig .tc := ⟨.hbm, 818, rfl⟩
abbrev main_v431 : Ref sig .tc := ⟨.hbm, 819, rfl⟩
abbrev main_cst_56 : Ref sig .tc := ⟨.hbm, 820, rfl⟩
abbrev main_v432 : Ref sig .tc := ⟨.hbm, 821, rfl⟩
abbrev main_v433 : Ref sig .tc := ⟨.hbm, 822, rfl⟩
abbrev main_v434 : Ref sig .tc := ⟨.hbm, 823, rfl⟩
abbrev main_cst_57 : Ref sig .tc := ⟨.hbm, 824, rfl⟩
abbrev main_v435 : Ref sig .tc := ⟨.hbm, 825, rfl⟩
abbrev main_v436 : Ref sig .tc := ⟨.hbm, 826, rfl⟩
abbrev main_v437 : Ref sig .tc := ⟨.hbm, 827, rfl⟩
abbrev main_v438 : Ref sig .tc := ⟨.hbm, 828, rfl⟩
abbrev main_v439 : Ref sig .tc := ⟨.hbm, 829, rfl⟩
abbrev main_v440 : Ref sig .tc := ⟨.hbm, 830, rfl⟩
abbrev main_cst_58 : Ref sig .tc := ⟨.hbm, 831, rfl⟩
abbrev main_v441 : Ref sig .tc := ⟨.hbm, 832, rfl⟩
abbrev main_v442 : Ref sig .tc := ⟨.hbm, 833, rfl⟩
abbrev main_v443 : Ref sig .tc := ⟨.hbm, 834, rfl⟩
abbrev main_v444 : Ref sig .tc := ⟨.hbm, 835, rfl⟩
abbrev main_cst_59 : Ref sig .tc := ⟨.hbm, 836, rfl⟩
abbrev main_call25_v0 : Ref sig .tc := ⟨.hbm, 837, rfl⟩
abbrev main_call25_v1 : Ref sig .tc := ⟨.hbm, 838, rfl⟩
abbrev main_v445 : Ref sig .tc := ⟨.hbm, 839, rfl⟩

abbrev nD : Nat := 1
abbrev τ : Topo := Topo.v7x

variable {F : FTy → Type} [FloatOps F]
-- ==== Proof.Consts.lean ====
/-
  The float32 literals of the two programs as extended reals. Every fact here is the evaluation of one pattern.
-/
module

public import Idealize.ShloMosaic.PureOps.Ideal
public import Mathlib.Tactic.NormNum

@[expose] public section

noncomputable section

namespace Cert.Spline

open Idealize.ShloMosaic

/-- The extended real a float32 pattern stands for. -/
abbrev lit (b : BitVec 32) : EReal := Ideal.ofBits .f32 b

/-- The bin width 0.01 as float32 has it. -/
def bwR : ℝ := 10737418 / 1073741824

/-- The pattern of zero is zero. -/
theorem lit_zero : lit 0x00000000#32 = 0 := by
  simp [lit, Ideal.ofBits, Ideal.ieee, -EReal.coe_mul]
/-- The pattern of one is one. -/
theorem lit_one : lit 0x3F800000#32 = 1 := by
  simp [lit, Ideal.ofBits, Ideal.ieee, -EReal.coe_mul]; norm_num
/-- The pattern of two is two. -/
theorem lit_two : lit 0x40000000#32 = ((2 : ℝ) : EReal) := by
  simp [lit, Ideal.ofBits, Ideal.ieee, -EReal.coe_mul]; norm_num
/-- The bin width. -/
theorem lit_bw : lit 0x3C23D70A#32 = ((bwR : ℝ) : EReal) := by
  simp [lit, Ideal.ofBits, Ideal.ieee, bwR, -EReal.coe_mul]; norm_num
/-- Twice the bin width. -/
theorem lit_bw2 : lit 0x3CA3D70A#32 = ((2 * bwR : ℝ) : EReal) := by
  simp [lit, Ideal.ofBits, Ideal.ieee, bwR, -EReal.coe_mul]; norm_num
/-- Four times the bin width. -/
theorem lit_bw4 : lit 0x3D23D70A#32 = ((4 * bwR : ℝ) : EReal) := by
  simp [lit, Ideal.ofBits, Ideal.ieee, bwR, -EReal.coe_mul]; norm_num
/-- The bin width negated. -/
theorem lit_nbw : lit 0xBC23D70A#32 = ((-bwR : ℝ) : EReal) := by
  simp [lit, Ideal.ofBits, Ideal.ieee, bwR, -EReal.coe_mul]; norm_num
/-- Twice the bin width, negated. -/
theorem lit_nbw2 : lit 0xBCA3D70A#32 = ((-(2 * bwR) : ℝ) : EReal) := by
  simp [lit, Ideal.ofBits, Ideal.ieee, bwR, -EReal.coe_mul]; norm_num
/-- The pattern of minus infinity is the bottom. -/
theorem lit_bot : lit 0xFF800000#32 = ⊥ := by
  simp [lit, Ideal.ofBits, Ideal.ieee]

/-- The exact product of the two float32 factors 0.96 and 1 - 0.04/0.96. -/
def scaleT : ℝ := 258956967416955 / 281474976710656

/-- The two factors multiply to that product. -/
theorem lit_scaleT : lit 0x3F75C28F#32 * lit 0x3F755555#32 = ((scaleT : ℝ) : EReal) := by
  rw [show lit 0x3F75C28F#32 = ((16106127 / 16777216 : ℝ) : EReal) by
      simp [lit, Ideal.ofBits, Ideal.ieee, -EReal.coe_mul]; norm_num,
    show lit 0x3F755555#32 = ((16078165 / 16777216 : ℝ) : EReal) by
      simp [lit, Ideal.ofBits, Ideal.ieee, -EReal.coe_mul]; norm_num, ← EReal.coe_mul]
  norm_num [scaleT]

/-- The nudge added to the last knot is a nonnegative real. -/
theorem lit_eps : ∃ e : ℝ, 0 ≤ e ∧ lit 0x358637BD#32 = (e : EReal) := by
  refine ⟨8796093 / 8796093022208, by norm_num, ?_⟩
  simp [lit, Ideal.ofBits, Ideal.ieee, -EReal.coe_mul]; norm_num

/-- The bin width is positive. -/
theorem bwR_pos : 0 < bwR := by norm_num [bwR]
/-- The scale is positive. -/
theorem scaleT_pos : 0 < scaleT := by norm_num [scaleT]

end Cert.Spline

end
-- ==== Proof.Spline.lean ====
/-
  The cubic B-spline flow at one element, over the extended reals: the spline's knots and coefficients from the two
  softmaxes, the four polynomial coefficients from the local knots, and the two results. The kernel and the reference
  are both read as these functions; what differs between them (how the bin is found, how the sums are bracketed) is
  compared here.
-/
module

public import proofs.«01_k».proof.Proof.Consts
public import Mathlib.Tactic.FinCases
public import Mathlib.Tactic.Abel

@[expose] public section

noncomputable section

namespace Cert.Spline

open Idealize.ShloMosaic

/-! ## The polynomial on one bin -/

/-- What the polynomial of a bin is made of: six consecutive knots and four consecutive coefficients. -/
@[ext] structure Piece where
  tm2 : EReal
  tm1 : EReal
  t0 : EReal
  t1 : EReal
  t2 : EReal
  t3 : EReal
  km3 : EReal
  km2 : EReal
  km1 : EReal
  km0 : EReal

namespace Piece

variable (p : Piece)

/-- The denominator (t3 - t0)(t2 - t0)(t1 - t0). -/
def den0 : EReal := (p.t3 - p.t0) * (p.t2 - p.t0) * (p.t1 - p.t0)
/-- The denominator (t2 - tm1)(t1 - tm1)(t1 - t0). -/
def den1 : EReal := (p.t2 - p.tm1) * (p.t1 - p.tm1) * (p.t1 - p.t0)
/-- The denominator (t2 - tm1)(t2 - t0)(t1 - t0). -/
def den2 : EReal := (p.t2 - p.tm1) * (p.t2 - p.t0) * (p.t1 - p.t0)
/-- The denominator (t1 - t0)(t1 - tm2)(t1 - tm1). -/
def den3 : EReal := (p.t1 - p.t0) * (p.t1 - p.tm2) * (p.t1 - p.tm1)
/-- The denominator (t1 - t0)(t2 - t0)(t2 - tm1). -/
def den4 : EReal := (p.t1 - p.t0) * (p.t2 - p.t0) * (p.t2 - p.tm1)
/-- The denominator (t1 - t0)(t1 - tm1)(t2 - tm1). -/
def den5 : EReal := (p.t1 - p.t0) * (p.t1 - p.tm1) * (p.t2 - p.tm1)
/-- The denominator (t1 - tm2)(t1 - tm1)(t1 - t0). -/
def den6 : EReal := (p.t1 - p.tm2) * (p.t1 - p.tm1) * (p.t1 - p.t0)

/-- The four coefficients weighted by one, three, three and one quotients. -/
def weigh (n0 n1 n1' n1'' n2 n2' n2'' n3 : EReal) : EReal :=
  p.km0 * Ideal.div n0 p.den0 + p.km1 * (Ideal.div n1 p.den1 + Ideal.div n1' p.den2 + Ideal.div n1'' p.den0)
    + p.km2 * (Ideal.div n2 p.den3 + Ideal.div n2' p.den4 + Ideal.div n2'' p.den5) + p.km3 * Ideal.div n3 p.den6

/-- The cubic coefficient. -/
def a : EReal :=
  p.km0 * Ideal.div (lit 0x3F800000#32) p.den0
    + p.km1 * (Ideal.div (lit 0xBF800000#32) p.den1 - Ideal.div (lit 0x3F800000#32) p.den2 - Ideal.div (lit 0x3F800000#32) p.den0)
    + p.km2 * (Ideal.div (lit 0x3F800000#32) p.den3 + Ideal.div (lit 0x3F800000#32) p.den4 + Ideal.div (lit 0x3F800000#32) p.den5)
    + p.km3 * Ideal.div (lit 0xBF800000#32) p.den6

/-- The quadratic coefficient. -/
def b : EReal :=
  p.weigh (lit 0xC0400000#32 * p.t0)
    (lit 0x40000000#32 * p.tm1 + p.t1) (p.tm1 + p.t2 + p.t0) (p.t3 + lit 0x40000000#32 * p.t0)
    (lit 0xC0000000#32 * p.t1 - p.tm2) (lit 0xC0000000#32 * p.t2 - p.t0) (-p.t2 - p.t1 - p.tm1)
    (lit 0x40400000#32 * p.t1)

/-- The linear coefficient, two of its numerators given. -/
def cWith (u v : EReal) : EReal :=
  p.weigh (lit 0x40400000#32 * p.t0 * p.t0)
    (-p.tm1 * p.tm1 - lit 0x40000000#32 * p.tm1 * p.t1) (-p.tm1 * p.t2 - p.tm1 * p.t0 - p.t2 * p.t0)
    (-p.t0 * p.t0 - lit 0x40000000#32 * p.t3 * p.t0)
    (p.t1 * p.t1 + lit 0x40000000#32 * p.t1 * p.tm2) u v
    (lit 0xC0400000#32 * p.t1 * p.t1)

/-- The linear coefficient with its numerators expanded. -/
def c : EReal :=
  p.cWith (p.t2 * p.t2 + lit 0x40000000#32 * p.t0 * p.t2) (p.t2 * p.t1 + p.tm1 * p.t1 + p.t2 * p.tm1)

/-- The linear coefficient with its numerators factored. -/
def cFactored : EReal :=
  p.cWith ((p.t2 + lit 0x40000000#32 * p.t0) * p.t2) ((p.tm1 + p.t2) * p.t1 + p.t2 * p.tm1)

/-- The constant coefficient. -/
def d : EReal :=
  p.km0 * Ideal.div (-p.t0 * p.t0 * p.t0) p.den0
    + p.km1 * (Ideal.div (p.tm1 * p.tm1 * p.t1) p.den1 + Ideal.div (p.tm1 * p.t2 * p.t0) p.den2 + Ideal.div (p.t3 * p.t0 * p.t0) p.den0)
    + p.km2 * (Ideal.div (-(p.t1 * p.t1 * p.tm2)) p.den3 - Ideal.div (p.t0 * p.t2 * p.t2) p.den4 - Ideal.div (p.t2 * p.tm1 * p.t1) p.den5)
    + p.km3 * Ideal.div (p.t1 * p.t1 * p.t1) p.den6

/-- The piece of bin `i`: knots `i` to `i + 5` and coefficients `i` to `i + 3`. -/
def mk' (T : Fin 13 → EReal) (A : Fin 11 → EReal) (i : Fin 8) : Piece where
  tm2 := T ⟨i.val, by omega⟩
  tm1 := T ⟨i.val + 1, by omega⟩
  t0 := T ⟨i.val + 2, by omega⟩
  t1 := T ⟨i.val + 3, by omega⟩
  t2 := T ⟨i.val + 4, by omega⟩
  t3 := T ⟨i.val + 5, by omega⟩
  km3 := A ⟨i.val, by omega⟩
  km2 := A ⟨i.val + 1, by omega⟩
  km1 := A ⟨i.val + 2, by omega⟩
  km0 := A ⟨i.val + 3, by omega⟩

end Piece

/-- The spline's value from its four coefficients, by Horner's rule. -/
def poly (a b c d x : EReal) : EReal := ((a * x + b) * x + c) * x + d
/-- The logarithm of the spline's slope from its coefficients. -/
def slope (a b c x : EReal) : EReal :=
  Ideal.log (max ((lit 0x40400000#32 * a * x + lit 0x40000000#32 * b) * x + c)
    (-((lit 0x40400000#32 * a * x + lit 0x40000000#32 * b) * x + c)) + lit 0x2B8CBCCC#32)

/-! ## The two forms of the linear coefficient -/

/-- The two forms of the linear coefficient agree where the knots are real. -/
theorem Piece.cFactored_eq (p : Piece) {x y z w : ℝ} (h2 : p.t2 = (x : EReal)) (h0 : p.t0 = (y : EReal))
    (h1 : p.t1 = (z : EReal)) (hm : p.tm1 = (w : EReal)) : p.cFactored = p.c := by
  unfold Piece.cFactored Piece.c
  rw [h2, h0, h1, hm, lit_two]
  congr 1
  · norm_cast; ring
  · norm_cast; ring

/-- A quotient by the bottom is zero. -/
theorem div_bot (x : EReal) : Ideal.div x ⊥ = 0 := by simp [Ideal.div]

/-- Every coefficient of a piece whose knots are all the bottom is zero, in either form. -/
theorem Piece.bottom (p : Piece) (h : p.tm2 = ⊥ ∧ p.tm1 = ⊥ ∧ p.t0 = ⊥ ∧ p.t1 = ⊥ ∧ p.t2 = ⊥ ∧ p.t3 = ⊥) :
    p.a = 0 ∧ p.b = 0 ∧ p.c = 0 ∧ p.cFactored = 0 ∧ p.d = 0 := by
  obtain ⟨h1, h2, h3, h4, h5, h6⟩ := h
  have e : (⊥ : EReal) - ⊥ = ⊥ := by simp [sub_eq_add_neg]
  have e2 : (⊥ : EReal) * ⊥ * ⊥ = ⊥ := by simp
  have d0 : p.den0 = ⊥ := by simp only [Piece.den0, h3, h4, h5, h6, e, e2]
  have d1 : p.den1 = ⊥ := by simp only [Piece.den1, h2, h3, h4, h5, e, e2]
  have d2 : p.den2 = ⊥ := by simp only [Piece.den2, h2, h3, h4, h5, e, e2]
  have d3 : p.den3 = ⊥ := by simp only [Piece.den3, h1, h2, h3, h4, e, e2]
  have d4 : p.den4 = ⊥ := by simp only [Piece.den4, h2, h3, h4, h5, e, e2]
  have d5 : p.den5 = ⊥ := by simp only [Piece.den5, h2, h3, h4, h5, e, e2]
  have d6 : p.den6 = ⊥ := by simp only [Piece.den6, h1, h2, h3, h4, e, e2]
  have hw : ∀ n0 n1 n1' n1'' n2 n2' n2'' n3, p.weigh n0 n1 n1' n1'' n2 n2' n2'' n3 = 0 := by
    intros; simp [Piece.weigh, d0, d1, d2, d3, d4, d5, d6, div_bot]
  refine ⟨?_, hw .., hw .., hw .., ?_⟩
  · simp [Piece.a, d0, d1, d2, d3, d4, d5, d6, div_bot]
  · simp [Piece.d, d0, d1, d2, d3, d4, d5, d6, div_bot]

/-! ## The softmax -/

/-- The exponential of a value below the top is a nonnegative real. -/
theorem exp_sub_real {x m : EReal} (h : x ≤ m) : ∃ r : ℝ, 0 ≤ r ∧ Ideal.exp (x - m) = (r : EReal) := by
  have key : ∀ z : EReal, z ≠ ⊤ → ∃ r : ℝ, 0 ≤ r ∧ Ideal.exp z = (r : EReal) := by
    intro z hz
    induction z using EReal.rec with
    | bot => exact ⟨0, le_refl _, rfl⟩
    | coe r => exact ⟨Real.exp r, (Real.exp_pos r).le, rfl⟩
    | top => exact absurd rfl hz
  apply key
  induction m using EReal.rec with
  | bot => simp [le_bot_iff.1 h, sub_eq_add_neg]
  | top => simp [sub_eq_add_neg]
  | coe m =>
    induction x using EReal.rec with
    | bot => simp [sub_eq_add_neg]
    | coe x => exact EReal.coe_ne_top (x - m)
    | top => exact absurd h (by simp)

/-- The greatest of four. -/
def top4 (c : Fin 4 → EReal) : EReal := max (max (c 0) (c 1)) (max (c 2) (c 3))
/-- The exponential of the `i`-th of four logits, shifted by the greatest. -/
def exp4 (c : Fin 4 → EReal) (i : Fin 4) : EReal := Ideal.exp (c i - top4 c)
/-- The sum of the four exponentials. -/
def sum4 (c : Fin 4 → EReal) : EReal := (exp4 c 0 + exp4 c 2) + (exp4 c 1 + exp4 c 3)
/-- The width of the `i`-th of the four free bins. -/
def width (c : Fin 4 → EReal) (i : Fin 4) : EReal :=
  Ideal.div (exp4 c i) (sum4 c) * ((scaleT : ℝ) : EReal) + lit 0x3C23D70A#32

/-- The greatest of six. -/
def top6 (g : Fin 6 → EReal) : EReal := max (max (max (g 0) (g 1)) (max (g 2) (g 3))) (max (g 4) (g 5))
/-- The exponential of the `i`-th of six logits, shifted by the greatest. -/
def exp6 (g : Fin 6 → EReal) (i : Fin 6) : EReal := Ideal.exp (g i - top6 g)
/-- The sum of the six exponentials. -/
def sum6 (g : Fin 6 → EReal) : EReal := ((exp6 g 0 + exp6 g 4) + exp6 g 2) + ((exp6 g 1 + exp6 g 5) + exp6 g 3)
/-- The `i`-th of the six free increments of the coefficients. -/
def height (g : Fin 6 → EReal) (i : Fin 6) : EReal :=
  Ideal.div (exp6 g i) (sum6 g) * lit 0x3F6B8520#32 + lit 0x3C23D70A#32

/-- The running sum of the widths, the fixed ones before and after the free ones included, up to knot `5 + n`. -/
def cumT (c : Fin 4 → EReal) : Fin 8 → EReal :=
  ![lit 0x3D23D70A#32 + width c 0,
    lit 0x3D23D70A#32 + width c 0 + width c 1,
    lit 0x3D23D70A#32 + width c 0 + width c 1 + width c 2,
    lit 0x3D23D70A#32 + width c 0 + width c 1 + width c 2 + width c 3,
    lit 0x3D23D70A#32 + width c 0 + width c 1 + width c 2 + width c 3 + lit 0x3C23D70A#32,
    lit 0x3D23D70A#32 + width c 0 + width c 1 + width c 2 + width c 3 + lit 0x3C23D70A#32 + lit 0x3C23D70A#32,
    lit 0x3D23D70A#32 + width c 0 + width c 1 + width c 2 + width c 3 + lit 0x3C23D70A#32 + lit 0x3C23D70A#32 + lit 0x3C23D70A#32,
    lit 0x3D23D70A#32 + width c 0 + width c 1 + width c 2 + width c 3 + lit 0x3C23D70A#32 + lit 0x3C23D70A#32 + lit 0x3C23D70A#32
      + lit 0x3C23D70A#32]

/-- The thirteen knots. -/
def knotT (c : Fin 4 → EReal) : Fin 13 → EReal :=
  ![lit 0xBCA3D70A#32, lit 0xBC23D70A#32, lit 0x00000000#32, lit 0x3C23D70A#32, lit 0x3CA3D70A#32,
    cumT c 0 - lit 0x3CA3D70A#32, cumT c 1 - lit 0x3CA3D70A#32, cumT c 2 - lit 0x3CA3D70A#32, cumT c 3 - lit 0x3CA3D70A#32,
    cumT c 4 - lit 0x3CA3D70A#32, cumT c 5 - lit 0x3CA3D70A#32, cumT c 6 - lit 0x3CA3D70A#32, cumT c 7 - lit 0x3CA3D70A#32]

/-- The running sum of the coefficients' increments up to coefficient `3 + n`. -/
def cumA (g : Fin 6 → EReal) : Fin 8 → EReal :=
  ![lit 0x3CA3D70A#32 + height g 0,
    lit 0x3CA3D70A#32 + height g 0 + height g 1,
    lit 0x3CA3D70A#32 + height g 0 + height g 1 + height g 2,
    lit 0x3CA3D70A#32 + height g 0 + height g 1 + height g 2 + height g 3,
    lit 0x3CA3D70A#32 + height g 0 + height g 1 + height g 2 + height g 3 + height g 4,
    lit 0x3CA3D70A#32 + height g 0 + height g 1 + height g 2 + height g 3 + height g 4 + height g 5,
    lit 0x3CA3D70A#32 + height g 0 + height g 1 + height g 2 + height g 3 + height g 4 + height g 5 + lit 0x3C23D70A#32,
    lit 0x3CA3D70A#32 + height g 0 + height g 1 + height g 2 + height g 3 + height g 4 + height g 5 + lit 0x3C23D70A#32
      + lit 0x3C23D70A#32]

/-- The eleven coefficients. -/
def knotA (g : Fin 6 → EReal) : Fin 11 → EReal :=
  ![lit 0xBC23D70A#32, lit 0x00000000#32, lit 0x3C23D70A#32,
    cumA g 0 - lit 0x3C23D70A#32, cumA g 1 - lit 0x3C23D70A#32, cumA g 2 - lit 0x3C23D70A#32, cumA g 3 - lit 0x3C23D70A#32,
    cumA g 4 - lit 0x3C23D70A#32, cumA g 5 - lit 0x3C23D70A#32, cumA g 6 - lit 0x3C23D70A#32, cumA g 7 - lit 0x3C23D70A#32]

/-! ## The bin -/

/-- A value looked up among eight by seven bits, as a tree of depth three. -/
def tree {α : Type} (m1 m2 m3 m4 m5 m6 m7 : BitVec 1) (v : Fin 8 → α) : α :=
  Scalar.select m4
    (Scalar.select m6 (Scalar.select m7 (v 7) (v 6)) (Scalar.select m5 (v 5) (v 4)))
    (Scalar.select m2 (Scalar.select m3 (v 3) (v 2)) (Scalar.select m1 (v 1) (v 0)))

/-- Looking up is looking up the position. -/
theorem tree_eq {α : Type} (m1 m2 m3 m4 m5 m6 m7 : BitVec 1) (v : Fin 8 → α) :
    tree m1 m2 m3 m4 m5 m6 m7 v = v (tree m1 m2 m3 m4 m5 m6 m7 id) := by
  unfold tree Scalar.select
  split <;> split <;> split <;> rfl

/-- Whether `x` has reached the knot `t`, as a bit. -/
def reached (x t : EReal) : BitVec 1 := Ideal.cmp .oge x t

/-- The bin the tree finds. -/
def treeBin (T : Fin 13 → EReal) (x : EReal) : Fin 8 :=
  tree (reached x (T 3)) (reached x (T 4)) (reached x (T 5)) (reached x (T 6)) (reached x (T 7)) (reached x (T 8))
    (reached x (T 9)) id

/-- The nine knots the count compares with: the last one nudged. -/
def nudged (T : Fin 13 → EReal) (j : Fin 9) : EReal :=
  if j = 8 then T 10 + lit 0x358637BD#32 else T ⟨j.val + 2, by omega⟩

/-- How many of the nine knots `x` has reached. -/
def count (T : Fin 13 → EReal) (x : EReal) : ℕ := (Finset.univ.filter fun j : Fin 9 => reached x (nudged T j) = 1#1).card

/-- The bin the count gives. -/
def countBin (T : Fin 13 → EReal) (x : EReal) : Fin 8 := ⟨min (count T x - 1) 7, by omega⟩

/-! ## The results -/

/-- Whether `x` is strictly between zero and one, by two comparisons. -/
def inside (x : EReal) : BitVec 1 :=
  IntOp.andi (Ideal.cmp .ogt x (lit 0x00000000#32)) (Ideal.cmp .olt x (lit 0x3F800000#32))

/-- The spline's value as the kernel finds it. -/
def outTree (x : EReal) (c : Fin 4 → EReal) (g : Fin 6 → EReal) : EReal :=
  let p := Piece.mk' (knotT c) (knotA g) (treeBin (knotT c) x)
  Scalar.select (inside x) (poly p.a p.b p.cFactored p.d x) x
/-- The logarithm of the slope as the kernel finds it. -/
def ladTree (x : EReal) (c : Fin 4 → EReal) (g : Fin 6 → EReal) : EReal :=
  let p := Piece.mk' (knotT c) (knotA g) (treeBin (knotT c) x)
  Scalar.select (inside x) (slope p.a p.b p.cFactored x) (lit 0x00000000#32)
/-- The spline's value as the reference finds it. -/
def outCount (x : EReal) (c : Fin 4 → EReal) (g : Fin 6 → EReal) : EReal :=
  let p := Piece.mk' (knotT c) (knotA g) (countBin (knotT c) x)
  Scalar.select (inside x) (poly p.a p.b p.c p.d x) x
/-- The logarithm of the slope as the reference finds it. -/
def ladCount (x : EReal) (c : Fin 4 → EReal) (g : Fin 6 → EReal) : EReal :=
  let p := Piece.mk' (knotT c) (knotA g) (countBin (knotT c) x)
  Scalar.select (inside x) (slope p.a p.b p.c x) (lit 0x00000000#32)

end Cert.Spline

end
-- ==== Proof.KernelBody.lean ====
/-
  The body of the kernel at one element of a block: what it stores is the spline's value and the logarithm of its slope
  at that element's input, four width logits and six coefficient logits.
-/
module

public import proofs.«01_k».proof.Proof.Spline
public import proofs.«01_k».proof.Proof.Gen.KernelIdeal.Frame
public import Idealize.ShloMosaic.Lib.Pointwise
public import Idealize.ShloMosaic.Lib.ValueIdx
public import Idealize.ShloMosaic.PureOps.Ideal.Laws

@[expose] public section

noncomputable section

namespace Cert.KernelIdeal.Body

open Idealize.ShloMosaic Cert.KernelIdeal Cert.KernelIdeal.Gen Cert.Spline

variable (x0 : Vec Ideal S1024x128 .f32) (x1 : Vec Ideal S4x1024x128 .f32) (x2 : Vec Ideal S6x1024x128 .f32)

/-- The four width logits of one element of a block. -/
abbrev logits4 (j : S1024x128.Idx) : Fin 4 → EReal := fun i => x1 (ix3 i (j 0) (j 1))
/-- The six coefficient logits of one element of a block. -/
abbrev logits6 (j : S1024x128.Idx) : Fin 6 → EReal := fun i => x2 (ix3 i (j 0) (j 1))

/-! ## The loads -/

/-- The input loaded, at an element. -/
theorem pay111_apply (j : S1024x128.Idx) : k0_pay111 x0 x1 x2 j = x0 j := by
  unfold k0_pay111 k0_pay1
  rw [shapeCast_id]
  pointwise

/-- The second width logit. -/
theorem pay112_apply (j : S1024x128.Idx) : k0_pay112 x0 x1 x2 j = logits4 x1 j 1 := by
  unfold k0_pay112 k0_pay3; pointwise
/-- The third width logit. -/
theorem pay113_apply (j : S1024x128.Idx) : k0_pay113 x0 x1 x2 j = logits4 x1 j 2 := by
  unfold k0_pay113 k0_pay4; pointwise
/-- The fourth width logit. -/
theorem pay114_apply (j : S1024x128.Idx) : k0_pay114 x0 x1 x2 j = logits4 x1 j 3 := by
  unfold k0_pay114 k0_pay5; pointwise
/-- The first coefficient logit. -/
theorem pay115_apply (j : S1024x128.Idx) : k0_pay115 x0 x1 x2 j = logits6 x2 j 0 := by
  unfold k0_pay115 k0_pay6; pointwise
/-- The second coefficient logit. -/
theorem pay116_apply (j : S1024x128.Idx) : k0_pay116 x0 x1 x2 j = logits6 x2 j 1 := by
  unfold k0_pay116 k0_pay7; pointwise
/-- The third coefficient logit. -/
theorem pay117_apply (j : S1024x128.Idx) : k0_pay117 x0 x1 x2 j = logits6 x2 j 2 := by
  unfold k0_pay117 k0_pay8; pointwise
/-- The fourth coefficient logit. -/
theorem pay118_apply (j : S1024x128.Idx) : k0_pay118 x0 x1 x2 j = logits6 x2 j 3 := by
  unfold k0_pay118 k0_pay9; pointwise
/-- The fifth coefficient logit. -/
theorem pay119_apply (j : S1024x128.Idx) : k0_pay119 x0 x1 x2 j = logits6 x2 j 4 := by
  unfold k0_pay119 k0_pay10; pointwise
/-- The sixth coefficient logit. -/
theorem pay120_apply (j : S1024x128.Idx) : k0_pay120 x0 x1 x2 j = logits6 x2 j 5 := by
  unfold k0_pay120 k0_pay11; pointwise

/-- The greatest width logit. -/
theorem pay121_apply (j : S1024x128.Idx) : k0_pay121 x0 x1 x2 j = top4 (logits4 x1 j) := by
  unfold k0_pay121 k0_pay12 k0_pay2 k0_pay3 k0_pay4 k0_pay5; pointwise; rfl
/-- The exponential of the first width logit, shifted. -/
theorem pay122_apply (j : S1024x128.Idx) : k0_pay122 x0 x1 x2 j = exp4 (logits4 x1 j) 0 := by
  unfold k0_pay122 k0_pay13 k0_pay12 k0_pay2 k0_pay3 k0_pay4 k0_pay5; pointwise; rfl

/-! ## The knots -/

/-- The kernel's scale of the widths is the product of the reference's two. -/
theorem named_scale : (Named.named κ "dt_scale" 0x3F6B851E#32 : Ideal .f32) = ((scaleT : ℝ) : EReal) := by
  exact IdealRules.named_const.ideal_named_scalar _ _ _ _ rfl

section Knots

variable (v5 v7 v9 v24 v26 : FVec Ideal S1024x128 .f32) (j : S1024x128.Idx) (c : Fin 4 → EReal)

/-- The last of the running sums of the widths, at an element; the earlier ones are its parts. -/
theorem cumT_apply (h5 : v5 j = c 1) (h7 : v7 j = c 2) (h9 : v9 j = c 3) (h24 : v24 j = top4 c) (h26 : v26 j = exp4 c 0) :
    k0_pay18 v5 v7 v9 v24 v26 j = cumT c 0 ∧ k0_pay19 v5 v7 v9 v24 v26 j = cumT c 1 ∧ k0_pay20 v5 v7 v9 v24 v26 j = cumT c 2
    ∧ k0_pay21 v5 v7 v9 v24 v26 j = cumT c 3 ∧ k0_pay22 v5 v7 v9 v24 v26 j = cumT c 4 ∧ k0_pay23 v5 v7 v9 v24 v26 j = cumT c 5
    ∧ k0_pay24 v5 v7 v9 v24 v26 j = cumT c 6 ∧ k0_pay25 v5 v7 v9 v24 v26 j = cumT c 7 := by
  have e1 : k0_pay14 v5 v24 j = exp4 c 1 := by
    show Ideal.exp (v5 j - v24 j) = _
    rw [h5, h24]; rfl
  have e2 : k0_pay15 v7 v24 j = exp4 c 2 := by
    show Ideal.exp (v7 j - v24 j) = _
    rw [h7, h24]; rfl
  have e3 : k0_pay16 v9 v24 j = exp4 c 3 := by
    show Ideal.exp (v9 j - v24 j) = _
    rw [h9, h24]; rfl
  have s : k0_pay17 v5 v7 v9 v24 v26 j = sum4 c := by
    show (v26 j + k0_pay15 v7 v24 j) + (k0_pay14 v5 v24 j + k0_pay16 v9 v24 j) = _
    rw [h26, e1, e2, e3]; rfl
  have w : ∀ (v : FVec Ideal S1024x128 .f32) (i : Fin 4), v j = exp4 c i →
      Ideal.div (v j) (k0_pay17 v5 v7 v9 v24 v26 j) * (Named.named κ "dt_scale" 0x3F6B851E#32 : Ideal .f32) + lit 0x3C23D70A#32 = width c i := by
    intro v i h
    rw [h, s, named_scale]; rfl
  have p0 : k0_pay18 v5 v7 v9 v24 v26 j = cumT c 0 := congrArg (lit 0x3D23D70A#32 + ·) (w v26 0 h26)
  have p1 : k0_pay19 v5 v7 v9 v24 v26 j = cumT c 1 := congrArg₂ (fun a b : EReal => a + b) p0 (w _ 1 e1)
  have p2 : k0_pay20 v5 v7 v9 v24 v26 j = cumT c 2 := congrArg₂ (fun a b : EReal => a + b) p1 (w _ 2 e2)
  have p3 : k0_pay21 v5 v7 v9 v24 v26 j = cumT c 3 := congrArg₂ (fun a b : EReal => a + b) p2 (w _ 3 e3)
  have p4 : k0_pay22 v5 v7 v9 v24 v26 j = cumT c 4 := congrArg (fun a : EReal => a + lit 0x3C23D70A#32) p3
  have p5 : k0_pay23 v5 v7 v9 v24 v26 j = cumT c 5 := congrArg (fun a : EReal => a + lit 0x3C23D70A#32) p4
  have p6 : k0_pay24 v5 v7 v9 v24 v26 j = cumT c 6 := congrArg (fun a : EReal => a + lit 0x3C23D70A#32) p5
  have p7 : k0_pay25 v5 v7 v9 v24 v26 j = cumT c 7 := congrArg (fun a : EReal => a + lit 0x3C23D70A#32) p6
  exact ⟨p0, p1, p2, p3, p4, p5, p6, p7⟩

end Knots

/-- The eight knots after the five constant ones. -/
theorem knotT_at (j : S1024x128.Idx) :
    k0_pay123 x0 x1 x2 j = knotT (logits4 x1 j) 5 ∧ k0_pay124 x0 x1 x2 j = knotT (logits4 x1 j) 6
    ∧ k0_pay125 x0 x1 x2 j = knotT (logits4 x1 j) 7 ∧ k0_pay126 x0 x1 x2 j = knotT (logits4 x1 j) 8
    ∧ k0_pay127 x0 x1 x2 j = knotT (logits4 x1 j) 9 ∧ k0_pay128 x0 x1 x2 j = knotT (logits4 x1 j) 10
    ∧ k0_pay129 x0 x1 x2 j = knotT (logits4 x1 j) 11 ∧ k0_pay130 x0 x1 x2 j = knotT (logits4 x1 j) 12 := by
  obtain ⟨p0, p1, p2, p3, p4, p5, p6, p7⟩ := cumT_apply _ _ _ _ _ j (logits4 x1 j) (pay112_apply x0 x1 x2 j)
    (pay113_apply x0 x1 x2 j) (pay114_apply x0 x1 x2 j) (pay121_apply x0 x1 x2 j) (pay122_apply x0 x1 x2 j)
  have s : ∀ {a b : EReal}, a = b → a - lit 0x3CA3D70A#32 = b - lit 0x3CA3D70A#32 := fun h => by rw [h]
  exact ⟨s p0, s p1, s p2, s p3, s p4, s p5, s p6, s p7⟩

section Coefficients

variable (v11 v13 v15 v17 v19 v21 : FVec Ideal S1024x128 .f32) (j : S1024x128.Idx) (g : Fin 6 → EReal)

/-- The shifted exponentials of the coefficient logits and their sum, at an element. -/
theorem exp6_apply (h0 : v11 j = g 0) (h1 : v13 j = g 1) (h2 : v15 j = g 2) (h3 : v17 j = g 3) (h4 : v19 j = g 4) (h5 : v21 j = g 5) :
    k0_pay41 v11 v13 v15 v17 v19 v21 j = exp6 g 0 ∧ k0_pay42 v11 v13 v15 v17 v19 v21 j = exp6 g 1
    ∧ k0_pay43 v11 v13 v15 v17 v19 v21 j = exp6 g 2 ∧ k0_pay44 v11 v13 v15 v17 v19 v21 j = exp6 g 3
    ∧ k0_pay45 v11 v13 v15 v17 v19 v21 j = exp6 g 4 ∧ k0_pay46 v11 v13 v15 v17 v19 v21 j = exp6 g 5
    ∧ k0_pay47 v11 v13 v15 v17 v19 v21 j = sum6 g := by
  have m : k0_pay40 v11 v13 v15 v17 v19 v21 j = top6 g := by
    show max (max (max (v11 j) (v13 j)) (max (v15 j) (v17 j))) (max (v19 j) (v21 j)) = _
    rw [h0, h1, h2, h3, h4, h5]; rfl
  have e : ∀ {a : EReal} {i : Fin 6}, a = g i → Ideal.exp (a - k0_pay40 v11 v13 v15 v17 v19 v21 j) = exp6 g i := by
    intro a i h
    rw [h, m]; rfl
  have s : k0_pay47 v11 v13 v15 v17 v19 v21 j = sum6 g := by
    show ((Ideal.exp (v11 j - k0_pay40 v11 v13 v15 v17 v19 v21 j) + Ideal.exp (v19 j - k0_pay40 v11 v13 v15 v17 v19 v21 j))
        + Ideal.exp (v15 j - k0_pay40 v11 v13 v15 v17 v19 v21 j))
      + ((Ideal.exp (v13 j - k0_pay40 v11 v13 v15 v17 v19 v21 j) + Ideal.exp (v21 j - k0_pay40 v11 v13 v15 v17 v19 v21 j))
        + Ideal.exp (v17 j - k0_pay40 v11 v13 v15 v17 v19 v21 j)) = _
    rw [e h0, e h1, e h2, e h3, e h4, e h5]; rfl
  exact ⟨e h0, e h1, e h2, e h3, e h4, e h5, s⟩

end Coefficients

/-- The eight coefficients after the three constant ones. -/
theorem knotA_at (j : S1024x128.Idx) :
    k0_pay142 x0 x1 x2 j = knotA (logits6 x2 j) 3 ∧ k0_pay143 x0 x1 x2 j = knotA (logits6 x2 j) 4
    ∧ k0_pay144 x0 x1 x2 j = knotA (logits6 x2 j) 5 ∧ k0_pay145 x0 x1 x2 j = knotA (logits6 x2 j) 6
    ∧ k0_pay146 x0 x1 x2 j = knotA (logits6 x2 j) 7 ∧ k0_pay147 x0 x1 x2 j = knotA (logits6 x2 j) 8
    ∧ k0_pay148 x0 x1 x2 j = knotA (logits6 x2 j) 9 ∧ k0_pay149 x0 x1 x2 j = knotA (logits6 x2 j) 10 := by
  obtain ⟨e0, e1, e2, e3, e4, e5, s⟩ := exp6_apply _ _ _ _ _ _ j (logits6 x2 j) (pay115_apply x0 x1 x2 j)
    (pay116_apply x0 x1 x2 j) (pay117_apply x0 x1 x2 j) (pay118_apply x0 x1 x2 j) (pay119_apply x0 x1 x2 j) (pay120_apply x0 x1 x2 j)
  have h : ∀ {a b : EReal} {i : Fin 6}, a = exp6 (logits6 x2 j) i → b = sum6 (logits6 x2 j) →
      Ideal.div a b * lit 0x3F6B8520#32 + lit 0x3C23D70A#32 = height (logits6 x2 j) i := by
    intro a b i ha hb
    rw [ha, hb]; rfl
  have add : ∀ {a b c d : EReal}, a = b → c = d → a + c = b + d := fun h h' => by rw [h, h']
  have q0 : lit 0x3CA3D70A#32 + k0_pay140 x0 x1 x2 j = cumA (logits6 x2 j) 0 := add rfl (h e0 s)
  have q1 := add q0 (h e1 s)
  have q2 := add q1 (h e2 s)
  have q3 := add q2 (h e3 s)
  have q4 := add q3 (h e4 s)
  have q5 := add q4 (h e5 s)
  have q6 := add q5 (Eq.refl (lit 0x3C23D70A#32))
  have q7 := add q6 (Eq.refl (lit 0x3C23D70A#32))
  have t : ∀ {a b : EReal}, a = b → a - lit 0x3C23D70A#32 = b - lit 0x3C23D70A#32 := fun h => by rw [h]
  exact ⟨t q0, t q1, t q2, t q3, t q4, t q5, t q6, t q7⟩

/-! ## The bin -/

/-- The seven comparisons with the inner knots. -/
theorem reached_at (j : S1024x128.Idx) :
    k0_pay152 x0 x1 x2 j = reached (x0 j) (knotT (logits4 x1 j) 3) ∧ k0_pay153 x0 x1 x2 j = reached (x0 j) (knotT (logits4 x1 j) 4)
    ∧ k0_pay154 x0 x1 x2 j = reached (x0 j) (knotT (logits4 x1 j) 5) ∧ k0_pay155 x0 x1 x2 j = reached (x0 j) (knotT (logits4 x1 j) 6)
    ∧ k0_pay156 x0 x1 x2 j = reached (x0 j) (knotT (logits4 x1 j) 7) ∧ k0_pay157 x0 x1 x2 j = reached (x0 j) (knotT (logits4 x1 j) 8)
    ∧ k0_pay158 x0 x1 x2 j = reached (x0 j) (knotT (logits4 x1 j) 9) := by
  obtain ⟨p5, p6, p7, p8, p9, -, -, -⟩ := knotT_at x0 x1 x2 j
  have r : ∀ {t u : EReal}, t = u → Ideal.cmp .oge (k0_pay111 x0 x1 x2 j) t = reached (x0 j) u := by
    intro t u h
    rw [h, pay111_apply]; rfl
  exact ⟨r rfl, r rfl, r p5, r p6, r p7, r p8, r p9⟩

/-- What the kernel has gathered for an element: six knots and four coefficients. -/
def pieceAt (j : S1024x128.Idx) : Piece :=
  ⟨k0_pay159 x0 x1 x2 j, k0_pay160 x0 x1 x2 j, k0_pay161 x0 x1 x2 j, k0_pay162 x0 x1 x2 j, k0_pay163 x0 x1 x2 j,
    k0_pay165 x0 x1 x2 j, k0_pay166 x0 x1 x2 j, k0_pay167 x0 x1 x2 j, k0_pay168 x0 x1 x2 j, k0_pay169 x0 x1 x2 j⟩

/-- A tree of selections over values known one by one, at the comparisons with the inner knots. -/
theorem tree_at (j : S1024x128.Idx) (v : Fin 8 → EReal) (w : Fin 8 → EReal) (h : ∀ i, w i = v i) :
    tree (k0_pay152 x0 x1 x2 j) (k0_pay153 x0 x1 x2 j) (k0_pay154 x0 x1 x2 j) (k0_pay155 x0 x1 x2 j) (k0_pay156 x0 x1 x2 j)
      (k0_pay157 x0 x1 x2 j) (k0_pay158 x0 x1 x2 j) w = v (treeBin (knotT (logits4 x1 j)) (x0 j)) := by
  obtain ⟨m1, m2, m3, m4, m5, m6, m7⟩ := reached_at x0 x1 x2 j
  rw [funext h, m1, m2, m3, m4, m5, m6, m7, tree_eq]; rfl

/-- They are the knots and coefficients of the element's bin. -/
theorem pieceAt_eq (j : S1024x128.Idx) :
    pieceAt x0 x1 x2 j = Piece.mk' (knotT (logits4 x1 j)) (knotA (logits6 x2 j)) (treeBin (knotT (logits4 x1 j)) (x0 j)) := by
  obtain ⟨p5, p6, p7, p8, p9, p10, p11, p12⟩ := knotT_at x0 x1 x2 j
  obtain ⟨q3, q4, q5, q6, q7, q8, q9, q10⟩ := knotA_at x0 x1 x2 j
  have t0 : k0_pay35 (F := Ideal) j = knotT (logits4 x1 j) 0 := rfl
  have t1 : k0_pay131 x0 x1 x2 j = knotT (logits4 x1 j) 1 := rfl
  have t2 : k0_pay132 x0 x1 x2 j = knotT (logits4 x1 j) 2 := rfl
  have t3 : k0_pay133 x0 x1 x2 j = knotT (logits4 x1 j) 3 := rfl
  have t4 : k0_pay134 x0 x1 x2 j = knotT (logits4 x1 j) 4 := rfl
  have a0 : k0_pay66 (F := Ideal) j = knotA (logits6 x2 j) 0 := rfl
  have a1 : k0_pay150 x0 x1 x2 j = knotA (logits6 x2 j) 1 := rfl
  have a2 : k0_pay151 x0 x1 x2 j = knotA (logits6 x2 j) 2 := rfl
  have eight : ∀ {v w : Fin 8 → EReal}, w 0 = v 0 → w 1 = v 1 → w 2 = v 2 → w 3 = v 3 → w 4 = v 4 → w 5 = v 5 → w 6 = v 6 →
      w 7 = v 7 → ∀ i, w i = v i := by
    intro v w h0 h1 h2 h3 h4 h5 h6 h7 i
    fin_cases i <;> assumption
  apply Piece.ext
  · have h := tree_at x0 x1 x2 j (fun i => knotT (logits4 x1 j) ⟨i.val, by omega⟩) ![_, _, _, _, _, _, _, _] (eight t0 t1 t2 t3 t4 p5 p6 p7)
    exact h
  · have h := tree_at x0 x1 x2 j (fun i => knotT (logits4 x1 j) ⟨i.val + 1, by omega⟩) ![_, _, _, _, _, _, _, _] (eight t1 t2 t3 t4 p5 p6 p7 p8)
    exact h
  · have h := tree_at x0 x1 x2 j (fun i => knotT (logits4 x1 j) ⟨i.val + 2, by omega⟩) ![_, _, _, _, _, _, _, _] (eight t2 t3 t4 p5 p6 p7 p8 p9)
    exact h
  · have h := tree_at x0 x1 x2 j (fun i => knotT (logits4 x1 j) ⟨i.val + 3, by omega⟩) ![_, _, _, _, _, _, _, _] (eight t3 t4 p5 p6 p7 p8 p9 p10)
    exact h
  · have h := tree_at x0 x1 x2 j (fun i => knotT (logits4 x1 j) ⟨i.val + 4, by omega⟩) ![_, _, _, _, _, _, _, _] (eight t4 p5 p6 p7 p8 p9 p10 p11)
    exact h
  · have h := tree_at x0 x1 x2 j (fun i => knotT (logits4 x1 j) ⟨i.val + 5, by omega⟩) ![_, _, _, _, _, _, _, _] (eight p5 p6 p7 p8 p9 p10 p11 p12)
    exact h
  · have h := tree_at x0 x1 x2 j (fun i => knotA (logits6 x2 j) ⟨i.val, by omega⟩) ![_, _, _, _, _, _, _, _] (eight a0 a1 a2 q3 q4 q5 q6 q7)
    exact h
  · have h := tree_at x0 x1 x2 j (fun i => knotA (logits6 x2 j) ⟨i.val + 1, by omega⟩) ![_, _, _, _, _, _, _, _] (eight a1 a2 q3 q4 q5 q6 q7 q8)
    exact h
  · have h := tree_at x0 x1 x2 j (fun i => knotA (logits6 x2 j) ⟨i.val + 2, by omega⟩) ![_, _, _, _, _, _, _, _] (eight a2 q3 q4 q5 q6 q7 q8 q9)
    exact h
  · have h := tree_at x0 x1 x2 j (fun i => knotA (logits6 x2 j) ⟨i.val + 3, by omega⟩) ![_, _, _, _, _, _, _, _] (eight q3 q4 q5 q6 q7 q8 q9 q10)
    exact h

/-! ## The polynomial -/

/-- A negation as the kernel writes it. -/
theorem neg_sub (x : EReal) : -x = lit 0x00000000#32 - x := by rw [lit_zero, zero_sub]

/-- The kernel's last step towards the cubic coefficient, its first two quotients given. -/
theorem cubic_apply (v185 v192 v199 v206 v213 v220 v227 v234 v241 v256 v271 : FVec Ideal S1024x128 .f32) (j : S1024x128.Idx) (p : Piece)
    (hp : p = ⟨v185 j, v192 j, v199 j, v206 j, v213 j, v220 j, v227 j, v234 j, v241 j, p.km0⟩)
    (h256 : v256 j = p.km0 * Ideal.div (lit 0x3F800000#32) p.den0)
    (h271 : v271 j = Ideal.div (lit 0xBF800000#32) p.den1 - Ideal.div (lit 0x3F800000#32) p.den2) :
    k0_pay89 v185 v192 v199 v206 v213 v220 v227 v234 v241 v256 v271 j = p.a := by
  have e : k0_pay89 v185 v192 v199 v206 v213 v220 v227 v234 v241 v256 v271 j
      = (fun (q : Piece) (y z : EReal) => y + q.km1 * (z - Ideal.div (lit 0x3F800000#32) q.den0)
          + q.km2 * (Ideal.div (lit 0x3F800000#32) q.den3 + Ideal.div (lit 0x3F800000#32) q.den4 + Ideal.div (lit 0x3F800000#32) q.den5)
          + q.km3 * Ideal.div (lit 0xBF800000#32) q.den6)
        ⟨v185 j, v192 j, v199 j, v206 j, v213 j, v220 j, v227 j, v234 j, v241 j, p.km0⟩ (v256 j) (v271 j) := rfl
  rw [e, ← hp, h256, h271]; rfl

/-- The cubic coefficient. -/
theorem pay170_apply (j : S1024x128.Idx) : k0_pay170 x0 x1 x2 j = (pieceAt x0 x1 x2 j).a :=
  cubic_apply _ _ _ _ _ _ _ _ _ _ _ j (pieceAt x0 x1 x2 j) rfl rfl rfl

/-- The quadratic coefficient. -/
theorem pay171_apply (j : S1024x128.Idx) : k0_pay171 x0 x1 x2 j = (pieceAt x0 x1 x2 j).b := by
  unfold Piece.b; simp only [neg_sub]; rfl

/-- The linear coefficient. -/
theorem pay172_apply (j : S1024x128.Idx) : k0_pay172 x0 x1 x2 j = (pieceAt x0 x1 x2 j).cFactored := by
  unfold Piece.cFactored Piece.cWith; simp only [neg_sub]; rfl

/-- What the kernel stores for the spline's value, at an element. -/
theorem out_at (j : S1024x128.Idx) : out0_3 x0 x1 x2 j = outTree (x0 j) (logits4 x1 j) (logits6 x2 j) := by
  have e : out0_3 x0 x1 x2 j = Scalar.select (inside (k0_pay111 x0 x1 x2 j))
      (poly (k0_pay170 x0 x1 x2 j) (k0_pay171 x0 x1 x2 j) (k0_pay172 x0 x1 x2 j) (pieceAt x0 x1 x2 j).d (k0_pay111 x0 x1 x2 j))
      (k0_pay111 x0 x1 x2 j) := by
    unfold out0_3 Piece.d
    rw [View.canon_unit_zero (by funext a; fin_cases a <;> rfl)]
    simp only [neg_sub]; rfl
  rw [e, pay170_apply, pay171_apply, pay172_apply, pieceAt_eq, pay111_apply]; rfl

/-- What the kernel stores for the logarithm of the slope, at an element. -/
theorem lad_at (j : S1024x128.Idx) : out0_4 x0 x1 x2 j = ladTree (x0 j) (logits4 x1 j) (logits6 x2 j) := by
  have e : out0_4 x0 x1 x2 j = Scalar.select (inside (k0_pay111 x0 x1 x2 j))
      (slope (k0_pay170 x0 x1 x2 j) (k0_pay171 x0 x1 x2 j) (k0_pay172 x0 x1 x2 j) (k0_pay111 x0 x1 x2 j)) (lit 0x00000000#32) := by
    unfold out0_4
    rw [View.canon_unit_zero (by funext a; fin_cases a <;> rfl)]; rfl
  rw [e, pay170_apply, pay171_apply, pay172_apply, pieceAt_eq, pay111_apply]; rfl

end Cert.KernelIdeal.Body

end
-- ==== Proof.KernelValue.lean ====
/-
  What the kernel leaves in its two results: at every element the spline's value and the logarithm of its slope, for
  that element's input, four width logits and six coefficient logits.
-/
module

public import proofs.«01_k».proof.Proof.KernelBody
public import Idealize.ShloMosaic.Lib.Claim
public import Idealize.ShloMosaic.Lib.StableHlo.ReadAt
public import Idealize.ShloMosaic.Lib.Pipeline.Value

@[expose] public section

noncomputable section

namespace Cert.KernelIdeal.Whole

open Idealize.ShloMosaic Idealize.ShloMosaic.TcCoe Idealize.SL.Sem
open Cert.KernelIdeal Cert.KernelIdeal.Gen Cert.KernelIdeal.Body Cert.Spline
open Idealize.ShloMosaic.Pipeline (Dat)

variable (m : (ℓ : Loc nD τ sig) → Buf (Elt Ideal) ℓ) (ρ : Dev nD → PrngReg)

/-! ## The arrays the kernel's grid reads: the arguments laid out by rows of 128 -/

/-- The inputs by rows. -/
theorem V_v0 (c : Dev nD) (a : Fin 32768) (b : Fin 128) :
    V m c main_v0 (ix2 a b) = m ((c : Thread nD τ).loc main_arg0) (ix1 ⟨a.val * 128 + b.val, by omega⟩) := by
  unfold V V0
  after_reads_at

/-- The width logits by rows, one array for each. -/
theorem V_v2 (c : Dev nD) (k : Fin 4) (a : Fin 32768) (b : Fin 128) :
    V m c main_v2 (ix3 k a b) = m ((c : Thread nD τ).loc main_arg1) (ix2 ⟨a.val * 128 + b.val, by omega⟩ k) := by
  unfold V V0
  after_reads_at

/-- The coefficient logits by rows, one array for each. -/
theorem V_v4 (c : Dev nD) (k : Fin 6) (a : Fin 32768) (b : Fin 128) :
    V m c main_v4 (ix3 k a b) = m ((c : Thread nD τ).loc main_arg2) (ix2 ⟨a.val * 128 + b.val, by omega⟩ k) := by
  unfold V V0
  after_reads_at

/-! ## What each grid point writes is its block of one function of the arrays -/

/-- A function of an input, four width logits and six coefficient logits, over the arrays laid out by rows. -/
def byRows (f : EReal → (Fin 4 → EReal) → (Fin 6 → EReal) → EReal) (y0 : S32768x128.Idx → EReal) (y1 : S4x32768x128.Idx → EReal)
    (y2 : S6x32768x128.Idx → EReal) : S32768x128.Idx → EReal := fun i =>
  f (y0 (ix2 (i 0) (i 1))) (fun k => y1 (ix3 k (i 0) (i 1))) (fun k => y2 (ix3 k (i 0) (i 1)))

/-- That function at a row and a lane. -/
theorem byRows_apply (f : EReal → (Fin 4 → EReal) → (Fin 6 → EReal) → EReal) (y0 : S32768x128.Idx → EReal) (y1 : S4x32768x128.Idx → EReal)
    (y2 : S6x32768x128.Idx → EReal) (a : Fin 32768) (b : Fin 128) :
    byRows f y0 y1 y2 (ix2 a b) = f (y0 (ix2 a b)) (fun k => y1 (ix3 k a b)) (fun k => y2 (ix3 k a b)) := rfl

/-- The spline's values over the arrays laid out by rows. -/
def outRows (c : Dev nD) : S32768x128.Idx → EReal := byRows outTree (V m c main_v0) (V m c main_v2) (V m c main_v4)
/-- The logarithms of the slope over the arrays laid out by rows. -/
def ladRows (c : Dev nD) : S32768x128.Idx → EReal := byRows ladTree (V m c main_v0) (V m c main_v2) (V m c main_v4)

/-- Where each window's block lies at a grid point: rows `1024 t` to `1024 t + 1023`. -/
theorem index_facts : ∀ t : Fin cfg0.N,
    win0_0.index t = ![t.val, 0] ∧ win0_1.index t = ![0, t.val, 0] ∧ win0_2.index t = ![0, t.val, 0]
    ∧ win0_3.index t = ![t.val, 0] ∧ win0_4.index t = ![t.val, 0] :=
  (by decide +kernel : ∀ t : Fin grid0.N, win0_0.index t = ![t.val, 0] ∧ win0_1.index t = ![0, t.val, 0]
    ∧ win0_2.index t = ![0, t.val, 0] ∧ win0_3.index t = ![t.val, 0] ∧ win0_4.index t = ![t.val, 0])

/-- The row of the array that row `j` of point `t`'s block is. -/
def rowAt (t : Fin cfg0.N) (j : Fin 1024) : Fin 32768 := ⟨t.val * 1024 + j.val, by
  have : t.val < 32 := lt_of_lt_of_eq t.isLt (by decide +kernel)
  omega⟩

/-- The block of the inputs at a grid point. -/
theorem iblk0_apply (c : Dev nD) (t : Fin cfg0.N) (j : S1024x128.Idx) :
    iblk m c 0 t j = V m c main_v0 (ix2 (rowAt t (j 0)) (j 1)) := by
  obtain ⟨e, -⟩ := index_facts t
  show V m c main_v0 _ = _
  congr 1
  funext a
  apply Fin.ext
  match a with
  | ⟨0, _⟩ =>
    show win0_0.index t 0 * 1024 + 1 * (j 0).val = t.val * 1024 + (j 0).val
    rw [e]; simp
  | ⟨1, _⟩ =>
    show win0_0.index t 1 * 128 + 1 * (j 1).val = (j 1).val
    rw [e]; simp

/-- The block of the width logits at a grid point. -/
theorem iblk1_apply (c : Dev nD) (t : Fin cfg0.N) (k : Fin 4) (a : Fin 1024) (b : Fin 128) :
    iblk m c 1 t (ix3 k a b) = V m c main_v2 (ix3 k (rowAt t a) b) := by
  obtain ⟨-, e, -⟩ := index_facts t
  show V m c main_v2 _ = _
  congr 1
  funext d
  apply Fin.ext
  match d with
  | ⟨0, _⟩ =>
    show win0_1.index t 0 * 4 + 1 * k.val = k.val
    rw [e]; simp
  | ⟨1, _⟩ =>
    show win0_1.index t 1 * 1024 + 1 * a.val = t.val * 1024 + a.val
    rw [e]; simp
  | ⟨2, _⟩ =>
    show win0_1.index t 2 * 128 + 1 * b.val = b.val
    rw [e]; simp

/-- The block of the coefficient logits at a grid point. -/
theorem iblk2_apply (c : Dev nD) (t : Fin cfg0.N) (k : Fin 6) (a : Fin 1024) (b : Fin 128) :
    iblk m c 2 t (ix3 k a b) = V m c main_v4 (ix3 k (rowAt t a) b) := by
  obtain ⟨-, -, e, -⟩ := index_facts t
  show V m c main_v4 _ = _
  congr 1
  funext d
  apply Fin.ext
  match d with
  | ⟨0, _⟩ =>
    show win0_2.index t 0 * 6 + 1 * k.val = k.val
    rw [e]; simp
  | ⟨1, _⟩ =>
    show win0_2.index t 1 * 1024 + 1 * a.val = t.val * 1024 + a.val
    rw [e]; simp
  | ⟨2, _⟩ =>
    show win0_2.index t 2 * 128 + 1 * b.val = b.val
    rw [e]; simp

/-- A block of a function over the rows, read at an element, for the first result's window. -/
theorem read_blk3 (G : S32768x128.Idx → EReal) (t : Fin cfg0.N) (j : S1024x128.Idx) :
    (win0_3.blk t).view.read (Elt Ideal) G j = G (ix2 (rowAt t (j 0)) (j 1)) := by
  obtain ⟨-, -, -, e, -⟩ := index_facts t
  show G _ = _
  congr 1
  funext a
  apply Fin.ext
  match a with
  | ⟨0, _⟩ =>
    show win0_3.index t 0 * 1024 + 1 * (j 0).val = t.val * 1024 + (j 0).val
    rw [e]; simp
  | ⟨1, _⟩ =>
    show win0_3.index t 1 * 128 + 1 * (j 1).val = (j 1).val
    rw [e]; simp

/-- A block of a function over the rows, read at an element, for the second result's window. -/
theorem read_blk4 (G : S32768x128.Idx → EReal) (t : Fin cfg0.N) (j : S1024x128.Idx) :
    (win0_4.blk t).view.read (Elt Ideal) G j = G (ix2 (rowAt t (j 0)) (j 1)) := by
  obtain ⟨-, -, -, -, e⟩ := index_facts t
  show G _ = _
  congr 1
  funext a
  apply Fin.ext
  match a with
  | ⟨0, _⟩ =>
    show win0_4.index t 0 * 1024 + 1 * (j 0).val = t.val * 1024 + (j 0).val
    rw [e]; simp
  | ⟨1, _⟩ =>
    show win0_4.index t 1 * 128 + 1 * (j 1).val = (j 1).val
    rw [e]; simp

/-- A function of the three blocks at a grid point is the block of that function over the rows. -/
theorem block_at (f : EReal → (Fin 4 → EReal) → (Fin 6 → EReal) → EReal) (c : Dev nD) (t : Fin cfg0.N) (a : Fin 1024) (b : Fin 128) :
    f (iblk m c 0 t (ix2 a b)) (logits4 (iblk m c 1 t) (ix2 a b)) (logits6 (iblk m c 2 t) (ix2 a b))
      = byRows f (V m c main_v0) (V m c main_v2) (V m c main_v4) (ix2 (rowAt t a) b) := by
  have h0 : iblk m c 0 t (ix2 a b) = V m c main_v0 (ix2 (rowAt t a) b) := iblk0_apply m c t (ix2 a b)
  have h1 : logits4 (iblk m c 1 t) (ix2 a b) = fun k => V m c main_v2 (ix3 k (rowAt t a) b) :=
    funext fun k => iblk1_apply m c t k a b
  have h2 : logits6 (iblk m c 2 t) (ix2 a b) = fun k => V m c main_v4 (ix3 k (rowAt t a) b) :=
    funext fun k => iblk2_apply m c t k a b
  rw [h0, h1, h2]
  exact (byRows_apply f _ _ _ (rowAt t a) b).symm

/-- What a grid point writes back to the first result. -/
theorem flushed3_eq (c : Dev nD) (t : Fin cfg0.N) :
    (dats m 0 c).flushed 3 t = (win0_3.blk t).view.read (Elt Ideal) (outRows m c) := by
  show (cfg0.win 3).cut (grid0.coords t) ((dats m 0 c).after 3 t) = _
  rw [after0_3]
  refine funext fun (j : S1024x128.Idx) => ?_
  obtain ⟨a, b, rfl⟩ : ∃ (a : Fin 1024) (b : Fin 128), j = ix2 a b := ⟨j 0, j 1, by funext q; fin_cases q <;> rfl⟩
  exact (out_at (iblk m c 0 t) (iblk m c 1 t) (iblk m c 2 t) (ix2 a b)).trans
    ((block_at m outTree c t a b).trans (read_blk3 (outRows m c) t (ix2 a b)).symm)

/-- What a grid point writes back to the second result. -/
theorem flushed4_eq (c : Dev nD) (t : Fin cfg0.N) :
    (dats m 0 c).flushed 4 t = (win0_4.blk t).view.read (Elt Ideal) (ladRows m c) := by
  show (cfg0.win 4).cut (grid0.coords t) ((dats m 0 c).after 4 t) = _
  rw [after0_4]
  refine funext fun (j : S1024x128.Idx) => ?_
  obtain ⟨a, b, rfl⟩ : ∃ (a : Fin 1024) (b : Fin 128), j = ix2 a b := ⟨j 0, j 1, by funext q; fin_cases q <;> rfl⟩
  exact (lad_at (iblk m c 0 t) (iblk m c 1 t) (iblk m c 2 t) (ix2 a b)).trans
    ((block_at m ladTree c t a b).trans (read_blk4 (ladRows m c) t (ix2 a b)).symm)

/-- A row lies in a grid point's block of the first result when it is one of the point's 1024 rows. -/
theorem mem_blk3 (t : Fin cfg0.N) (i : S32768x128.Idx) (h : t.val * 1024 ≤ (i 0 : Nat) ∧ (i 0 : Nat) < t.val * 1024 + 1024) :
    i ∈ ((cfg0.win 3).blk t).view.set := by
  show i ∈ ((View.whole main_v5_0).slice (win0_3.rect t)).set
  rw [View.set_slice_whole, Rect.mem_set_unit]
  have h1 : (i 1 : Nat) < 128 := (i 1).isLt
  have e := (index_facts t).2.2.2.1
  intro a
  match a with
  | ⟨0, _⟩ =>
    show win0_3.index t 0 * 1024 ≤ (i 0 : Nat) ∧ (i 0 : Nat) < win0_3.index t 0 * 1024 + 1024
    rw [e]; exact h
  | ⟨1, _⟩ =>
    show win0_3.index t 1 * 128 ≤ (i 1 : Nat) ∧ (i 1 : Nat) < win0_3.index t 1 * 128 + 128
    rw [e]; simp; omega

/-- A row lies in a grid point's block of the second result when it is one of the point's 1024 rows. -/
theorem mem_blk4 (t : Fin cfg0.N) (i : S32768x128.Idx) (h : t.val * 1024 ≤ (i 0 : Nat) ∧ (i 0 : Nat) < t.val * 1024 + 1024) :
    i ∈ ((cfg0.win 4).blk t).view.set := by
  show i ∈ ((View.whole main_v5_1).slice (win0_4.rect t)).set
  rw [View.set_slice_whole, Rect.mem_set_unit]
  have h1 : (i 1 : Nat) < 128 := (i 1).isLt
  have e := (index_facts t).2.2.2.2
  intro a
  match a with
  | ⟨0, _⟩ =>
    show win0_4.index t 0 * 1024 ≤ (i 0 : Nat) ∧ (i 0 : Nat) < win0_4.index t 0 * 1024 + 1024
    rw [e]; exact h
  | ⟨1, _⟩ =>
    show win0_4.index t 1 * 128 ≤ (i 1 : Nat) ∧ (i 1 : Nat) < win0_4.index t 1 * 128 + 128
    rw [e]; simp; omega

/-- Every row of the array lies in the block of a grid point, in both results. -/
theorem covered (i : S32768x128.Idx) : ∃ t : Fin cfg0.N,
    i ∈ ((cfg0.win 3).blk t).view.set ∧ i ∈ ((cfg0.win 4).blk t).view.set := by
  have h0 : (i 0 : Nat) < 32768 := (i 0).isLt
  have hN : cfg0.N = 32 := by decide +kernel
  have ht : (i 0 : Nat) / 1024 < cfg0.N := by omega
  have h : (i 0 : Nat) / 1024 * 1024 ≤ (i 0 : Nat) ∧ (i 0 : Nat) < (i 0 : Nat) / 1024 * 1024 + 1024 := by omega
  exact ⟨⟨_, ht⟩, mem_blk3 ⟨_, ht⟩ i h, mem_blk4 ⟨_, ht⟩ i h⟩

/-- The first result by rows, after the grid. -/
theorem final3 (c : Dev nD) : (dats m 0 c).arrAt 3 cfg0.N = outRows m c :=
  (dats m 0 c).arrAt_eq_of_cover 3 (outRows m c) (fun t _ => flushed3_eq m c t)
    fun i => (covered i).elim fun t h => ⟨t, flush0_3 t, h.1⟩

/-- The second result by rows, after the grid. -/
theorem final4 (c : Dev nD) : (dats m 0 c).arrAt 4 cfg0.N = ladRows m c :=
  (dats m 0 c).arrAt_eq_of_cover 4 (ladRows m c) (fun t _ => flushed4_eq m c t)
    fun i => (covered i).elim fun t h => ⟨t, flush0_4 t, h.2⟩

/-! ## The results -/

/-- The spline's values of the arguments. -/
def outOf (x0 : S4194304.Idx → EReal) (x1 : S4194304x4.Idx → EReal) (x2 : S4194304x6.Idx → EReal) : S4194304.Idx → EReal :=
  fun i => outTree (x0 i) (fun k => x1 (ix2 (i 0) k)) (fun k => x2 (ix2 (i 0) k))
/-- The logarithms of the slope for the arguments. -/
def ladOf (x0 : S4194304.Idx → EReal) (x1 : S4194304x4.Idx → EReal) (x2 : S4194304x6.Idx → EReal) : S4194304.Idx → EReal :=
  fun i => ladTree (x0 i) (fun k => x1 (ix2 (i 0) k)) (fun k => x2 (ix2 (i 0) k))

/-- A function over the rows, at an element's row and lane, is that function of the arguments at the element. -/
theorem rows_at (f : EReal → (Fin 4 → EReal) → (Fin 6 → EReal) → EReal) (c : Dev nD) (n : Fin 4194304) :
    byRows f (V m c main_v0) (V m c main_v2) (V m c main_v4) (ix2 ⟨n.val / 128, by omega⟩ ⟨n.val % 128, by omega⟩)
      = f (m ((c : Thread nD τ).loc main_arg0) (ix1 n)) (fun k => m ((c : Thread nD τ).loc main_arg1) (ix2 n k))
        (fun k => m ((c : Thread nD τ).loc main_arg2) (ix2 n k)) := by
  have hn : ∀ h, (⟨n.val / 128 * 128 + n.val % 128, h⟩ : Fin 4194304) = n := fun _ => Fin.ext (by simp only; omega)
  have h1 : (fun k : Fin 4 => V m c main_v2 (ix3 k ⟨n.val / 128, by omega⟩ ⟨n.val % 128, by omega⟩))
      = fun k => m ((c : Thread nD τ).loc main_arg1) (ix2 n k) := by
    funext k; rw [V_v2, hn]
  have h2 : (fun k : Fin 6 => V m c main_v4 (ix3 k ⟨n.val / 128, by omega⟩ ⟨n.val % 128, by omega⟩))
      = fun k => m ((c : Thread nD τ).loc main_arg2) (ix2 n k) := by
    funext k; rw [V_v4, hn]
  rw [byRows_apply, V_v0, hn, h1, h2]

/-- The first result after the lines behind the grid. -/
theorem W_v6 (c : Dev nD) : Pipeline.afterTail₀ cfgs (dats m) 0 (V0 m) [hostOps1] c main_v6
    = outOf (m ((c : Thread nD τ).loc main_arg0)) (m ((c : Thread nD τ).loc main_arg1)) (m ((c : Thread nD τ).loc main_arg2)) := by
  funext i
  obtain ⟨n, rfl⟩ : ∃ n : Fin 4194304, i = ix1 n := ⟨i 0, by funext a; fin_cases a; rfl⟩
  have e : Pipeline.afterTail₀ cfgs (dats m) 0 (V0 m) [hostOps1] c main_v6 (ix1 n)
      = (dats m 0 c).arrAt 3 cfg0.N (ix2 ⟨n.val / 128, by omega⟩ ⟨n.val % 128, by omega⟩) := by
    unfold Pipeline.afterTail₀
    after_reads_at
    exact congrFun (Pipeline.withArrays_arr spec0 launch0.win.arr_inj c (V0 m c) (fun w => (dats m 0 c).arrAt w cfg0.N) 3) _
  rw [final3] at e
  exact e.trans (rows_at m outTree c n)

/-- The second result after the lines behind the grid. -/
theorem W_v7 (c : Dev nD) : Pipeline.afterTail₀ cfgs (dats m) 0 (V0 m) [hostOps1] c main_v7
    = ladOf (m ((c : Thread nD τ).loc main_arg0)) (m ((c : Thread nD τ).loc main_arg1)) (m ((c : Thread nD τ).loc main_arg2)) := by
  funext i
  obtain ⟨n, rfl⟩ : ∃ n : Fin 4194304, i = ix1 n := ⟨i 0, by funext a; fin_cases a; rfl⟩
  have e : Pipeline.afterTail₀ cfgs (dats m) 0 (V0 m) [hostOps1] c main_v7 (ix1 n)
      = (dats m 0 c).arrAt 4 cfg0.N (ix2 ⟨n.val / 128, by omega⟩ ⟨n.val % 128, by omega⟩) := by
    unfold Pipeline.afterTail₀
    after_reads_at
    exact congrFun (Pipeline.withArrays_arr spec0 launch0.win.arr_inj c (V0 m c) (fun w => (dats m 0 c).arrAt w cfg0.N) 4) _
  rw [final4] at e
  exact e.trans (rows_at m ladTree c n)

/-- Every run of the kernel ends with the two results at the spline's values and logarithms of its slope, and the
    arguments as they were. -/
theorem run : θ_run defs (onTc (τ := τ) (main (F := Ideal))) ⟨m, fun _ => 0, ρ⟩ fun r => ∀ c : Dev nD,
      r.2.mem ((c : Thread nD τ).loc main_v6)
        = outOf (m ((c : Thread nD τ).loc main_arg0)) (m ((c : Thread nD τ).loc main_arg1)) (m ((c : Thread nD τ).loc main_arg2))
      ∧ r.2.mem ((c : Thread nD τ).loc main_v7)
        = ladOf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  θ_run_mono (θ_run_and (run_main m ρ) (unchanged m ρ)) fun _ h c =>
    ⟨((h.1 c).2 main_v6 (Pipeline.mem_restRefs_of main_v6 (by decide) (by decide))).trans (W_v6 m c),
      ((h.1 c).2 main_v7 (Pipeline.mem_restRefs_of main_v7 (by decide) (by decide))).trans (W_v7 m c), h.2 c⟩

end Cert.KernelIdeal.Whole

end
-- ==== Proof.SplineEq.lean ====
/-
  The kernel's way to a bin and the reference's agree. The widths are either all the bottom (no logit is finite and
  greatest), and then so are all knots a piece reads and every polynomial is zero, or all positive reals, and then the
  knots increase strictly and the tree and the count find one bin.
-/
module

public import proofs.«01_k».proof.Proof.Spline
public import Mathlib.Tactic.Linarith

@[expose] public section

noncomputable section

namespace Cert.Spline

open Idealize.ShloMosaic

/-- The widths are either all the bottom or all reals of at least the least width. -/
theorem width_cases (c : Fin 4 → EReal) :
    (∀ i, width c i = ⊥) ∨ ∃ w : Fin 4 → ℝ, (∀ i, bwR ≤ w i) ∧ ∀ i, width c i = ((w i : ℝ) : EReal) := by
  have hle : ∀ i, c i ≤ top4 c := by
    intro i
    unfold top4
    fin_cases i <;> simp
  choose e he0 he using fun i => exp_sub_real (hle i)
  have hs : sum4 c = (((e 0 + e 2) + (e 1 + e 3) : ℝ) : EReal) := by
    simp only [sum4, exp4, he]; norm_cast
  by_cases h0 : (e 0 + e 2) + (e 1 + e 3) = 0
  · left
    intro i
    have hi : e i = 0 := by
      have := he0 0; have := he0 1; have := he0 2; have := he0 3
      fin_cases i <;> simp <;> linarith
    have h1 : exp4 c i = 0 := by rw [exp4, he, hi]; rfl
    have h2 : sum4 c = 0 := by rw [hs, h0]; rfl
    rw [width, h1, h2, lit_bw]
    have h3 : Ideal.div 0 0 = ⊥ := by simp [Ideal.div]
    rw [h3, EReal.bot_mul_coe_of_pos scaleT_pos]
    simp
  · right
    refine ⟨fun i => e i / ((e 0 + e 2) + (e 1 + e 3)) * scaleT + bwR, fun i => ?_, fun i => ?_⟩
    · have : 0 ≤ e i / ((e 0 + e 2) + (e 1 + e 3)) * scaleT :=
        mul_nonneg (div_nonneg (he0 i) (by have := he0 0; have := he0 1; have := he0 2; have := he0 3; linarith)) scaleT_pos.le
      linarith
    · rw [width, exp4, he, hs, lit_bw, Ideal.div, if_neg (by exact_mod_cast h0), ← EReal.coe_inv]
      beta_reduce
      rw [div_eq_mul_inv]
      norm_cast

/-- Whether `x` has reached `t` is whether `t` is at most `x`. -/
theorem reached_eq (x t : EReal) : reached x t = if t ≤ x then 1#1 else 0#1 := by
  show BitVec.ofBool (decide (t ≤ x)) = _
  by_cases h : t ≤ x <;> simp [h]

/-- Bits that never rise again after they fall: the tree finds the last one set, and so does counting them. -/
theorem tree_count (f : Fin 9 → BitVec 1) (h0 : f 0 = 1#1) (h : ∀ j : Fin 8, f j.succ = 1#1 → f j.castSucc = 1#1) :
    tree (f 1) (f 2) (f 3) (f 4) (f 5) (f 6) (f 7) (id : Fin 8 → Fin 8)
      = ⟨min ((Finset.univ.filter fun j => f j = 1#1).card - 1) 7, by omega⟩ := by
  have b : ∀ j, f j = 0#1 ∨ f j = 1#1 := fun j => BitVec.eq_zero_or_eq_one (f j)
  have s1 : f 2 = 1#1 → f 1 = 1#1 := h 1
  have s2 : f 3 = 1#1 → f 2 = 1#1 := h 2
  have s3 : f 4 = 1#1 → f 3 = 1#1 := h 3
  have s4 : f 5 = 1#1 → f 4 = 1#1 := h 4
  have s5 : f 6 = 1#1 → f 5 = 1#1 := h 5
  have s6 : f 7 = 1#1 → f 6 = 1#1 := h 6
  have s7 : f 8 = 1#1 → f 7 = 1#1 := h 7
  apply Fin.ext
  show _ = min ((Finset.univ.filter fun j => f j = 1#1).card - 1) 7
  rw [Finset.card_filter]
  simp only [Fin.sum_univ_succ, Fin.sum_univ_zero]
  change (tree (f 1) (f 2) (f 3) (f 4) (f 5) (f 6) (f 7) (id : Fin 8 → Fin 8)).val
    = min (((if f 0 = 1#1 then 1 else 0) + ((if f 1 = 1#1 then 1 else 0) + ((if f 2 = 1#1 then 1 else 0)
      + ((if f 3 = 1#1 then 1 else 0) + ((if f 4 = 1#1 then 1 else 0) + ((if f 5 = 1#1 then 1 else 0)
      + ((if f 6 = 1#1 then 1 else 0) + ((if f 7 = 1#1 then 1 else 0) + ((if f 8 = 1#1 then 1 else 0) + 0))))))))) - 1) 7
  rw [h0]
  rcases b 1 with e1 | e1
  · have e2 := (b 2).resolve_right fun q => by simp [s1 q] at e1
    have e3 := (b 3).resolve_right fun q => by simp [s2 q] at e2
    have e4 := (b 4).resolve_right fun q => by simp [s3 q] at e3
    have e5 := (b 5).resolve_right fun q => by simp [s4 q] at e4
    have e6 := (b 6).resolve_right fun q => by simp [s5 q] at e5
    have e7 := (b 7).resolve_right fun q => by simp [s6 q] at e6
    have e8 := (b 8).resolve_right fun q => by simp [s7 q] at e7
    rw [e1, e2, e3, e4, e5, e6, e7, e8]; decide
  rcases b 2 with e2 | e2
  · have e3 := (b 3).resolve_right fun q => by simp [s2 q] at e2
    have e4 := (b 4).resolve_right fun q => by simp [s3 q] at e3
    have e5 := (b 5).resolve_right fun q => by simp [s4 q] at e4
    have e6 := (b 6).resolve_right fun q => by simp [s5 q] at e5
    have e7 := (b 7).resolve_right fun q => by simp [s6 q] at e6
    have e8 := (b 8).resolve_right fun q => by simp [s7 q] at e7
    rw [e1, e2, e3, e4, e5, e6, e7, e8]; decide
  rcases b 3 with e3 | e3
  · have e4 := (b 4).resolve_right fun q => by simp [s3 q] at e3
    have e5 := (b 5).resolve_right fun q => by simp [s4 q] at e4
    have e6 := (b 6).resolve_right fun q => by simp [s5 q] at e5
    have e7 := (b 7).resolve_right fun q => by simp [s6 q] at e6
    have e8 := (b 8).resolve_right fun q => by simp [s7 q] at e7
    rw [e1, e2, e3, e4, e5, e6, e7, e8]; decide
  rcases b 4 with e4 | e4
  · have e5 := (b 5).resolve_right fun q => by simp [s4 q] at e4
    have e6 := (b 6).resolve_right fun q => by simp [s5 q] at e5
    have e7 := (b 7).resolve_right fun q => by simp [s6 q] at e6
    have e8 := (b 8).resolve_right fun q => by simp [s7 q] at e7
    rw [e1, e2, e3, e4, e5, e6, e7, e8]; decide
  rcases b 5 with e5 | e5
  · have e6 := (b 6).resolve_right fun q => by simp [s5 q] at e5
    have e7 := (b 7).resolve_right fun q => by simp [s6 q] at e6
    have e8 := (b 8).resolve_right fun q => by simp [s7 q] at e7
    rw [e1, e2, e3, e4, e5, e6, e7, e8]; decide
  rcases b 6 with e6 | e6
  · have e7 := (b 7).resolve_right fun q => by simp [s6 q] at e6
    have e8 := (b 8).resolve_right fun q => by simp [s7 q] at e7
    rw [e1, e2, e3, e4, e5, e6, e7, e8]; decide
  rcases b 7 with e7 | e7
  · have e8 := (b 8).resolve_right fun q => by simp [s7 q] at e7
    rw [e1, e2, e3, e4, e5, e6, e7, e8]; decide
  rcases b 8 with e8 | e8 <;> (rw [e1, e2, e3, e4, e5, e6, e7, e8]; decide)

/-- Where every width is the bottom, every knot from the sixth on is. -/
theorem knotT_bot (c : Fin 4 → EReal) (h : ∀ i, width c i = ⊥) (k : Fin 13) (hk : 5 ≤ k.val) : knotT c k = ⊥ := by
  have e : ∀ n, cumT c n = ⊥ := by
    intro n
    fin_cases n <;> simp [cumT, h]
  obtain ⟨k, hk'⟩ := k
  simp only at hk
  interval_cases k <;> simp [knotT, e, sub_eq_add_neg]

/-- The knots that the widths `w` give, over the reals. -/
def realKnot (w : Fin 4 → ℝ) : Fin 13 → ℝ :=
  ![-(2 * bwR), -bwR, 0, bwR, 2 * bwR, 2 * bwR + w 0, 2 * bwR + w 0 + w 1, 2 * bwR + w 0 + w 1 + w 2,
    2 * bwR + w 0 + w 1 + w 2 + w 3, 3 * bwR + w 0 + w 1 + w 2 + w 3, 4 * bwR + w 0 + w 1 + w 2 + w 3,
    5 * bwR + w 0 + w 1 + w 2 + w 3, 6 * bwR + w 0 + w 1 + w 2 + w 3]

/-- Where every width is real, every knot is. -/
theorem knotT_real (c : Fin 4 → EReal) (w : Fin 4 → ℝ) (h : ∀ i, width c i = ((w i : ℝ) : EReal)) (k : Fin 13) :
    knotT c k = ((realKnot w k : ℝ) : EReal) := by
  fin_cases k <;> simp [knotT, cumT, realKnot, h, lit_bw, lit_bw2, lit_bw4, lit_nbw, lit_nbw2, -EReal.coe_mul] <;>
    first
      | rfl
      | exact lit_zero
      | (norm_cast; ring)

/-- Widths that are at least the least width make the knots increase. -/
theorem realKnot_step (w : Fin 4 → ℝ) (hw : ∀ i, bwR ≤ w i) (k : Fin 12) : realKnot w k.castSucc ≤ realKnot w k.succ := by
  have h := bwR_pos
  have h0 := hw 0; have h1 := hw 1; have h2 := hw 2; have h3 := hw 3
  fin_cases k <;> simp [realKnot] <;> linarith

/-- The tree and the count find one bin where the widths are real. -/
theorem bin_eq (c : Fin 4 → EReal) (w : Fin 4 → ℝ) (hw : ∀ i, bwR ≤ w i) (h : ∀ i, width c i = ((w i : ℝ) : EReal))
    (x : EReal) (hx : 0 < x) : treeBin (knotT c) x = countBin (knotT c) x := by
  have step : ∀ k : Fin 12, knotT c k.castSucc ≤ knotT c k.succ := fun k => by
    rw [knotT_real c w h, knotT_real c w h]; exact_mod_cast realKnot_step w hw k
  have up : ∀ {s t : EReal}, s ≤ t → reached x t = 1#1 → reached x s = 1#1 := by
    intro s t hst ht
    rw [reached_eq] at ht ⊢
    by_cases hh : t ≤ x
    · rw [if_pos (hst.trans hh)]
    · rw [if_neg hh] at ht; simp at ht
  refine tree_count (fun j => reached x (nudged (knotT c) j)) ?_ fun j => ?_
  · show reached x (knotT c 2) = 1#1
    rw [reached_eq, if_pos]
    show lit 0x00000000#32 ≤ x
    rw [lit_zero]; exact hx.le
  · apply up
    have hn : ∀ j : Fin 7, nudged (knotT c) j.castSucc.castSucc ≤ nudged (knotT c) j.castSucc.succ := by
      intro j
      have e := step ⟨j.val + 2, by omega⟩
      have e1 : nudged (knotT c) j.castSucc.castSucc = knotT c (Fin.castSucc ⟨j.val + 2, by omega⟩) := by
        rw [nudged, if_neg (by intro q; have := congrArg Fin.val q; simp at this; omega)]; rfl
      have e2 : nudged (knotT c) j.castSucc.succ = knotT c (Fin.succ ⟨j.val + 2, by omega⟩) := by
        rw [nudged, if_neg (by intro q; have := congrArg Fin.val q; simp at this; omega)]; rfl
      rw [e1, e2]; exact e
    rcases Fin.eq_castSucc_or_eq_last j with ⟨j, rfl⟩ | rfl
    · exact hn j
    · show knotT c 9 ≤ knotT c 10 + lit 0x358637BD#32
      obtain ⟨e, he, hl⟩ := lit_eps
      have s9 := step 9
      refine le_trans (show knotT c 9 ≤ knotT c 10 from step 9) ?_
      rw [hl]
      exact le_add_of_nonneg_right (by exact_mod_cast he)

/-- The pieces' four coefficients agree between zero and one. -/
theorem piece_eq (c : Fin 4 → EReal) (g : Fin 6 → EReal) (x : EReal) (hx : 0 < x) :
    let p := Piece.mk' (knotT c) (knotA g) (treeBin (knotT c) x)
    let q := Piece.mk' (knotT c) (knotA g) (countBin (knotT c) x)
    p.a = q.a ∧ p.b = q.b ∧ p.cFactored = q.c ∧ p.d = q.d := by
  rcases width_cases c with hb | ⟨w, hw, hr⟩
  · have hT := knotT_bot c hb
    have bot : ∀ i : Fin 8, 6 ≤ i.val → _ := fun i hi => Piece.bottom (Piece.mk' (knotT c) (knotA g) i)
      ⟨hT ⟨i.val, by omega⟩ (by show 5 ≤ i.val; omega), hT ⟨i.val + 1, by omega⟩ (by show 5 ≤ i.val + 1; omega),
        hT ⟨i.val + 2, by omega⟩ (by show 5 ≤ i.val + 2; omega), hT ⟨i.val + 3, by omega⟩ (by show 5 ≤ i.val + 3; omega),
        hT ⟨i.val + 4, by omega⟩ (by show 5 ≤ i.val + 4; omega), hT ⟨i.val + 5, by omega⟩ (by show 5 ≤ i.val + 5; omega)⟩
    have rb : reached x ⊥ = 1#1 := by rw [reached_eq, if_pos bot_le]
    have ht : treeBin (knotT c) x = 7 := by
      rw [treeBin, hT 5 (by decide), hT 6 (by decide), hT 7 (by decide), hT 8 (by decide), hT 9 (by decide), rb]
      rfl
    have hc : 7 ≤ count (knotT c) x := by
      have hz : reached x (knotT c 2) = 1#1 := by
        rw [reached_eq, if_pos]
        show lit 0x00000000#32 ≤ x
        rw [lit_zero]; exact hx.le
      refine le_trans (by decide : 7 ≤ ({0, 3, 4, 5, 6, 7, 8} : Finset (Fin 9)).card) (Finset.card_le_card fun j hj => ?_)
      rw [Finset.mem_filter]
      refine ⟨Finset.mem_univ _, ?_⟩
      fin_cases hj
      · exact hz
      · exact (congrArg (reached x) (hT 5 (by decide))).trans rb
      · exact (congrArg (reached x) (hT 6 (by decide))).trans rb
      · exact (congrArg (reached x) (hT 7 (by decide))).trans rb
      · exact (congrArg (reached x) (hT 8 (by decide))).trans rb
      · exact (congrArg (reached x) (hT 9 (by decide))).trans rb
      · show reached x (knotT c 10 + lit 0x358637BD#32) = 1#1
        rw [hT 10 (by decide), EReal.bot_add, rb]
    obtain ⟨a1, a2, -, a3, a4⟩ := bot (treeBin (knotT c) x) (by rw [ht]; decide)
    obtain ⟨b1, b2, b3, -, b4⟩ := bot (countBin (knotT c) x) (by show 6 ≤ min (count (knotT c) x - 1) 7; omega)
    exact ⟨a1.trans b1.symm, a2.trans b2.symm, a3.trans b3.symm, a4.trans b4.symm⟩
  · rw [bin_eq c w hw hr x hx]
    refine ⟨rfl, rfl, ?_, rfl⟩
    generalize countBin (knotT c) x = i
    exact Piece.cFactored_eq (Piece.mk' (knotT c) (knotA g) i) (knotT_real c w hr ⟨i.val + 4, by omega⟩)
      (knotT_real c w hr ⟨i.val + 2, by omega⟩) (knotT_real c w hr ⟨i.val + 3, by omega⟩) (knotT_real c w hr ⟨i.val + 1, by omega⟩)

/-- A value inside is positive. -/
theorem pos_of_inside (x : EReal) (h : inside x = 1#1) : 0 < x := by
  unfold inside at h
  have h1 : Ideal.cmp .ogt x (lit 0x00000000#32) = 1#1 := by
    revert h
    generalize Ideal.cmp .ogt x (lit 0x00000000#32) = u
    generalize Ideal.cmp .olt x (lit 0x3F800000#32) = v
    revert u v; decide
  rw [lit_zero] at h1
  change BitVec.ofBool (decide (0 < x)) = 1#1 at h1
  by_contra hn
  simp [hn] at h1

/-- The kernel's value is the reference's. -/
theorem out_eq (x : EReal) (c : Fin 4 → EReal) (g : Fin 6 → EReal) : outTree x c g = outCount x c g := by
  unfold outTree outCount
  by_cases h : inside x = 1#1
  · obtain ⟨h1, h2, h3, h4⟩ := piece_eq c g x (pos_of_inside x h)
    simp only [h1, h2, h3, h4]
  · exact (if_neg h).trans (if_neg h).symm

/-- The kernel's logarithm is the reference's. -/
theorem lad_eq (x : EReal) (c : Fin 4 → EReal) (g : Fin 6 → EReal) : ladTree x c g = ladCount x c g := by
  unfold ladTree ladCount
  by_cases h : inside x = 1#1
  · obtain ⟨h1, h2, h3, h4⟩ := piece_eq c g x (pos_of_inside x h)
    simp only [h1, h2, h3]
  · exact (if_neg h).trans (if_neg h).symm

end Cert.Spline

end
-- ==== Proof.RefOps.lean ====
/-
  The reference's array operations read at an element of a row: the greatest along a row, the running sum along a row,
  the padding of a row, two rows joined, an amount added to one column, the count of a row's set bits, and one element
  of a row picked by an index word.
-/
module

public import proofs.«01_k».proof.Proof.Consts
public import Idealize.ShloMosaic.Lib.Pointwise
public import Idealize.ShloMosaic.Lib.Routing.OpsOne
public import Idealize.ShloMosaic.Lib.ReduceAll
public import Idealize.ShloMosaic.PureOps.Ideal.Laws

@[expose] public section

noncomputable section

namespace Cert.RefOps

open Idealize.ShloMosaic

/-- The shape of a vector. -/
abbrev V1 (N : Nat) : Shape := ⟨1, ![N]⟩
/-- The shape of a matrix. -/
abbrev V2 (N C : Nat) : Shape := ⟨2, ![N, C]⟩
/-- The shape of a matrix with one more axis of length one. -/
abbrev V3 (N C : Nat) : Shape := ⟨3, ![N, C, 1]⟩
/-- The shape of a scalar. -/
abbrev V0 : Shape := ⟨0, ![]⟩

/-! ## The greatest along a row -/

/-- The elements that a reduction along the rows folds into row `n` are those of row `n`. -/
theorem drop_row {N C : Nat} (h : (V2 N C).ReducesTo [1] (V1 N)) (n : Fin N) :
    (Finset.univ.filter fun i : (V2 N C).Idx => h.drop i = ix1 n) = Finset.univ.image fun k : Fin C => (ix2 n k : (V2 N C).Idx) := by
  ext i
  have hv : (h.drop i 0 : Nat) = i 0 := Shape.ReducesTo.drop_apply_val h i 0
  simp only [Finset.mem_filter, Finset.mem_univ, true_and, Finset.mem_image]
  constructor
  · intro e
    rw [e] at hv
    refine ⟨i 1, funext fun b => ?_⟩
    match b with
    | ⟨0, _⟩ => exact Fin.ext hv
    | ⟨1, _⟩ => rfl
  · rintro ⟨k, rfl⟩
    funext b
    obtain rfl : b = 0 := Subsingleton.elim _ _
    exact Fin.ext hv

/-- The greatest along a row: a fold of `max` over the row's elements. -/
theorem reduce_max {N C : Nat} (x : (V2 N C).Idx → EReal) (init : V0.Idx → EReal) (h : (V2 N C).ReducesTo [1] (V1 N))
    (hu : 0 < V0.numel) (n : Fin N) :
    Host.reduce (FloatOps.maximumf : Ideal .f32 → Ideal .f32 → Ideal .f32) x init h hu (ix1 n)
      = (Finset.univ : Finset (Fin C)).fold max (init ix0) fun k => x (ix2 n k) := by
  rw [Host.reduce_eq_fold, drop_row, Finset.fold_image]
  · exact congrArg (fun z => Finset.fold max (init z) _ _) (funext fun a => a.elim0)
  · intro k _ k' _ e
    exact congrFun e 1

/-! ## The running sum along a row -/

/-- A left fold of additions is its start plus the sum. -/
theorem foldl_add {ι : Type} (g : ι → EReal) : ∀ (l : List ι) (z : EReal), l.foldl (fun r i => r + g i) z = z + (l.map g).sum
  | [], z => by simp
  | a :: l, z => by rw [List.foldl_cons, foldl_add g l, List.map_cons, List.sum_cons, add_assoc]

/-- The sum over a window that starts before the first element is the sum of the elements in it. -/
theorem window_sum (X : Nat → EReal) (J W : Nat) (h : J ≤ W) :
    (∑ k ∈ Finset.range (W + 1), if W ≤ J + k then X (J + k - W) else 0) = ∑ i ∈ Finset.range (J + 1), X i := by
  obtain ⟨p, rfl⟩ := Nat.exists_eq_add_of_le h
  rw [show J + p + 1 = p + (J + 1) by omega, Finset.sum_range_add,
    Finset.sum_eq_zero fun k hk => if_neg (by have := Finset.mem_range.1 hk; omega), zero_add]
  refine Finset.sum_congr rfl fun k _ => ?_
  rw [if_pos (by omega)]
  congr 1
  omega

/-- The running sum along a row, as a sum over a window that is as wide as the row and starts before it: element `j` of
    the result is the sum of the row's elements up to `j`, the row given as a function of a natural number. -/
theorem running_sum {N Wm1 : Nat} (x : (V2 N (Wm1 + 1)).Idx → EReal) (init : V0.Idx → EReal) (hinit : ∀ z, init z = 0)
    (h : (V2 N (Wm1 + 1)).ReduceWindows (![1, Wm1 + 1] : Fin 2 → Nat) ![1, 1] ![0, Wm1] ![0, 0] (V2 N (Wm1 + 1))) (hu : 0 < V0.numel)
    (n : Fin N) (X : Nat → EReal) (hX : ∀ k : Fin (Wm1 + 1), x (ix2 n k) = X k.val) (j : Fin (Wm1 + 1)) :
    Host.reduceWindowAdd (F := Ideal) (φ := .f32) ![1, Wm1 + 1] ![1, 1] ![0, Wm1] ![0, 0] x init h hu (ix2 n j)
      = ∑ i ∈ Finset.range (j.val + 1), X i := by
  have hj := j.isLt
  have hstep : ∀ (M : Nat), M = Wm1 + 1 →
      ((List.finRange M).map fun k => if Wm1 ≤ j.val + k.val then X (j.val + k.val - Wm1) else 0).sum
        = ∑ i ∈ Finset.range (j.val + 1), X i := by
    rintro M rfl
    rw [← Fin.sum_univ_def, Fin.sum_univ_eq_sum_range (fun k => if Wm1 ≤ j.val + k then X (j.val + k - Wm1) else 0)]
    exact window_sum X j.val Wm1 (by omega)
  simp only [Host.reduceWindowAdd, Ideal.hostReduceWindowAdd_def]
  unfold Ideal.hostReduceWindowAdd Host.reduceWindow
  rw [hinit]
  refine Eq.trans (List.foldl_ext _ (fun r k => r + if Wm1 ≤ j.val + k.val then X (j.val + k.val - Wm1) else 0) _
    fun r k _ => congrArg (r + ·) ?_) ((foldl_add (fun k : Fin (V2 1 (Wm1 + 1)).numel => if Wm1 ≤ j.val + k.val then X (j.val + k.val - Wm1) else 0) _ 0).trans
    ((zero_add _).trans (hstep _ (Routing.numel2 _))))
  have hw0 : ((V2 1 (Wm1 + 1)).rowMajor.symm k 0).val = 0 := by
    have : ((V2 1 (Wm1 + 1)).rowMajor.symm k 0).val < 1 := ((V2 1 (Wm1 + 1)).rowMajor.symm k 0).isLt
    omega
  have hw : ((V2 1 (Wm1 + 1)).rowMajor.symm k 1).val = k.val := by rw [Routing.symm2]; rfl
  have hk : k.val < Wm1 + 1 := (k.cast (Routing.numel2 _)).isLt
  split
  · next hin =>
    have h1 : Wm1 ≤ j.val * 1 + ((V2 1 (Wm1 + 1)).rowMajor.symm k 1).val
      ∧ j.val * 1 + ((V2 1 (Wm1 + 1)).rowMajor.symm k 1).val - Wm1 < Wm1 + 1 := hin 1
    rw [hw] at h1
    rw [if_pos (by omega)]
    refine (congrArg x (funext fun a => Fin.ext ?_)).trans (hX ⟨j.val + k.val - Wm1, by omega⟩)
    match a with
    | ⟨0, _⟩ =>
      show n.val * 1 + ((V2 1 (Wm1 + 1)).rowMajor.symm k 0).val - 0 = n.val
      rw [hw0]; omega
    | ⟨1, _⟩ =>
      show j.val * 1 + ((V2 1 (Wm1 + 1)).rowMajor.symm k 1).val - Wm1 = j.val + k.val - Wm1
      rw [hw, Nat.mul_one]
  · next hin =>
    rw [if_neg fun hle => hin fun a => by
      match a with
      | ⟨0, _⟩ =>
        show 0 ≤ n.val * 1 + ((V2 1 (Wm1 + 1)).rowMajor.symm k 0).val ∧ n.val * 1 + ((V2 1 (Wm1 + 1)).rowMajor.symm k 0).val - 0 < N
        rw [hw0]
        have := n.isLt
        omega
      | ⟨1, _⟩ =>
        show Wm1 ≤ j.val * 1 + ((V2 1 (Wm1 + 1)).rowMajor.symm k 1).val
          ∧ j.val * 1 + ((V2 1 (Wm1 + 1)).rowMajor.symm k 1).val - Wm1 < Wm1 + 1
        rw [hw]
        omega]

/-! ## A row padded, two rows joined -/

/-- A row padded on both sides. -/
theorem pad_row {N a b lo hi : Nat} (x : (V2 N a).Idx → EReal) (v : V0.Idx → EReal)
    (h : (V2 N a).Pads ![0, lo] ![0, hi] ![0, 0] (V2 N b)) (hu : 0 < V0.numel) (n : Fin N) (j : Fin b) :
    pad (V2 N b) ![0, lo] ![0, hi] ![0, 0] x v h hu (ix2 n j)
      = if hj : lo ≤ j.val ∧ j.val - lo < a then x (ix2 n ⟨j.val - lo, hj.2⟩) else v ix0 := by
  unfold pad
  have hiff : (∀ c : Fin 2, (![0, lo] : Fin 2 → Nat) c ≤ ((ix2 n j : (V2 N b).Idx) (c.cast h.1)).val
      ∧ (((ix2 n j : (V2 N b).Idx) (c.cast h.1)).val - (![0, lo] : Fin 2 → Nat) c) % ((![0, 0] : Fin 2 → Nat) c + 1) = 0
      ∧ (((ix2 n j : (V2 N b).Idx) (c.cast h.1)).val - (![0, lo] : Fin 2 → Nat) c) / ((![0, 0] : Fin 2 → Nat) c + 1) < (V2 N a).size c)
      ↔ (lo ≤ j.val ∧ j.val - lo < a) := by
    constructor
    · intro q
      have q1 : lo ≤ j.val ∧ (j.val - lo) % (0 + 1) = 0 ∧ (j.val - lo) / (0 + 1) < a := q 1
      rw [Nat.zero_add, Nat.div_one] at q1
      exact ⟨q1.1, q1.2.2⟩
    · intro q c
      match c with
      | ⟨0, _⟩ =>
        show 0 ≤ n.val ∧ (n.val - 0) % (0 + 1) = 0 ∧ (n.val - 0) / (0 + 1) < N
        rw [Nat.zero_add, Nat.div_one, Nat.mod_one]
        exact ⟨Nat.zero_le _, rfl, n.isLt⟩
      | ⟨1, _⟩ =>
        show lo ≤ j.val ∧ (j.val - lo) % (0 + 1) = 0 ∧ (j.val - lo) / (0 + 1) < a
        rw [Nat.zero_add, Nat.div_one, Nat.mod_one]
        exact ⟨q.1, rfl, q.2⟩
  split
  · next hin =>
    rw [dif_pos (hiff.1 hin)]
    refine congrArg x (funext fun c => Fin.ext ?_)
    match c with
    | ⟨0, _⟩ => exact Nat.div_one _
    | ⟨1, _⟩ => exact Nat.div_one _
  · next hin =>
    rw [dif_neg fun q => hin (hiff.2 q)]
    exact congrArg v (funext fun c => c.elim0)

/-- Two rows joined end to end. -/
theorem join_row {N a b t : Nat} (x : (V2 N a).Idx → EReal) (y : (V2 N b).Idx → EReal)
    (h : Shape.Concatenates [V2 N a, V2 N b] (V2 N t) 1) (hab : t = a + b) (n : Fin N) (j : Fin t) :
    concatenate (V2 N t) 1 [⟨V2 N a, x⟩, ⟨V2 N b, y⟩] h (ix2 n j)
      = if hj : j.val < a then x (ix2 n ⟨j.val, hj⟩) else y (ix2 n ⟨j.val - a, by omega⟩) := by
  rw [concatenate_pair_apply]
  by_cases hj : j.val < a
  · rw [dif_pos hj]
    refine (dif_pos (show ((ix2 n j : (V2 N t).Idx) 1).val < a from hj)).trans ?_
    rw [Shape.Idx.norm_def]
    refine congrArg x (funext fun c => Fin.ext ?_)
    match c with
    | ⟨0, _⟩ => rfl
    | ⟨1, _⟩ => rfl
  · rw [dif_neg hj]
    refine (dif_neg (show ¬((ix2 n j : (V2 N t).Idx) 1).val < a from hj)).trans ?_
    rw [Shape.Idx.norm_def]
    refine congrArg y (funext fun c => Fin.ext ?_)
    match c with
    | ⟨0, _⟩ => rfl
    | ⟨1, _⟩ => rfl

/-! ## An amount added to one column -/

/-- A fold that applies `f` at one position only applies it once. -/
theorem foldl_once {ι α : Type} [DecidableEq ι] (k0 : ι) (f : α → ι → α) (P : ι → Prop) [DecidablePred P] (hP : ∀ k, P k → k = k0) :
    ∀ (l : List ι) (z : α), l.Nodup → l.foldl (fun a k => if P k then f a k else a) z = if k0 ∈ l ∧ P k0 then f z k0 else z
  | [], z, _ => by simp
  | k :: l, z, hl => by
    obtain ⟨hk, hl⟩ := List.nodup_cons.1 hl
    rw [List.foldl_cons, foldl_once k0 f P hP l _ hl]
    by_cases hp : P k
    · obtain rfl := hP k hp
      rw [if_neg fun q => hk q.1, if_pos hp, if_pos ⟨List.mem_cons_self, hp⟩]
    · rw [if_neg hp]
      by_cases q : k0 ∈ l ∧ P k0
      · rw [if_pos q, if_pos ⟨List.mem_cons_of_mem _ q.1, q.2⟩]
      · rw [if_neg q, if_neg]
        rintro ⟨m, p⟩
        rcases List.mem_cons.1 m with rfl | m
        · exact hp p
        · exact q ⟨m, p⟩

/-- A vector added to one column of a matrix. -/
theorem add_column {N C : Nat} (d : ScatterDims (V2 N C) (V1 1) (V1 N)) (hiw : d.insertedWindowDims = [1])
    (hsd : d.scatterDimsToOperandDims = [1]) (x : (V2 N C).Idx → EReal) (idx : IVec (V1 1) 32) (u : (V1 N).Idx → EReal)
    (k : Fin C) (hidx : (idx (ix1 0)).toInt = (k.val : Int)) (n : Fin N) (c : Fin C) :
    Host.scatter d (FloatOps.addf : Ideal .f32 → Ideal .f32 → Ideal .f32) x idx u (ix2 n c)
      = if c = k then x (ix2 n c) + u (ix1 n) else x (ix2 n c) := by
  have lands : ∀ j : (V1 N).Idx, d.resultIdx? j idx = some (ix2 n c) ↔ j = ix1 n ∧ c = k := fun j => by
    have e : j = ix1 (j 0) := by funext a; obtain rfl : a = 0 := Subsingleton.elim _ _; rfl
    rw [e]
    refine (Routing.lands_col d hiw hsd idx k hidx (j 0) n c).trans (and_congr_left fun _ => ⟨fun q => by rw [q]; rfl, fun q => congrFun q 0⟩)
  rw [Routing.scatter_at, foldl_once ((V1 N).rowMajor (ix1 n)) (fun (a : Ideal .f32) q => FloatOps.addf a (u ((V1 N).rowMajor.symm q))) _
    (fun q hq => by rw [← ((lands _).1 hq).1, Equiv.apply_symm_apply]) _ _ (List.nodup_finRange _)]
  by_cases hc : c = k
  · rw [if_pos hc, if_pos ⟨List.mem_finRange _, (lands _).2 ⟨Equiv.symm_apply_apply _ _, hc⟩⟩, Equiv.symm_apply_apply]
    rfl
  · rw [if_neg hc, if_neg fun q => hc ((lands _).1 q.2).2]

/-! ## The count of a row's set bits -/

/-- The sum of a row's bits, widened to words, is their number. -/
theorem count_row {N C : Nat} (hC : C < 2 ^ 32) (mask : IVec (V2 N C) 1) (hw : 1 < 32) (h : (V2 N C).ReducesTo [1] (V1 N))
    (hu : 0 < V0.numel) (n : Fin N) :
    Host.reduce IntOp.addi (extui 32 mask hw) (constantI V0 32 0#32) h hu (ix1 n)
      = BitVec.ofNat 32 (Finset.univ.filter fun q : Fin C => mask (ix2 n q) = 1#1).card := by
  apply BitVec.eq_of_toNat_eq
  rw [StableHlo.Predicate.toNat_reduce_count_cols hC mask hw h hu (ix1 n), BitVec.toNat_ofNat, Nat.mod_eq_of_lt]
  · rfl
  · exact lt_of_le_of_lt (Finset.card_le_univ _) (by simpa using hC)

/-! ## One element of a row, picked by an index word -/

/-- Picking one element of every row: the element at the row's index word, read as a number and kept inside the row. -/
theorem pick_row {N C : Nat} (d : GatherDims (V2 N C) (V3 N 1) (V2 N 1)) (hod : d.offsetDims = []) (hcd : d.collapsedSliceDims = [1])
    (hob : d.operandBatchingDims = [0]) (hsb : d.startIndicesBatchingDims = [0]) (hsm : d.startIndexMap = [1]) (hiv : d.indexVectorDim = 2)
    (x : (V2 N C).Idx → EReal) (idx : IVec (V3 N 1) 32) (n : Fin N) (k : Fin C) (hk : (idx (ix3 n 0 0)).toInt = (k.val : Int)) :
    Host.gather d x idx (ix2 n 0) = x (ix2 n k) := by
  obtain ⟨od, cd, ob, sb, sm, iv, ss, wf⟩ := d
  dsimp only at hod hcd hob hsb hsm hiv
  subst hod hcd hob hsb hsm hiv
  have hs1 : ss 1 = 1 := GatherDims.slice_collapsed ⟨[], [1], [0], [0], [1], 2, ss, wf⟩ 1 (List.mem_singleton.2 rfl)
  unfold Host.gather
  refine congrArg x (funext fun a => Fin.ext ?_)
  have hkl := k.isLt
  match a with
  | ⟨0, _⟩ =>
    show GatherDims.start _ (ix2 n 0) idx 0 + GatherDims.batchCoord _ (ix2 n 0) 0 + GatherDims.offCoord _ (ix2 n 0) 0 = n.val
    rw [GatherDims.start_batching _ _ _ _ (List.mem_singleton.2 rfl),
      GatherDims.offCoord_eq_zero _ _ _ (fun h => ((GatherDims.mem_sKept _ _).1 h).2 (List.mem_singleton.2 rfl)), Nat.zero_add, Nat.add_zero]
    unfold GatherDims.batchCoord
    rw [dif_pos (List.mem_singleton.2 rfl)]
    rfl
  | ⟨1, _⟩ =>
    show GatherDims.start _ (ix2 n 0) idx 1 + GatherDims.batchCoord _ (ix2 n 0) 1 + GatherDims.offCoord _ (ix2 n 0) 1 = k.val
    rw [GatherDims.batchCoord_eq_zero _ _ _ (fun h => absurd (congrArg Fin.val (List.mem_singleton.1 h)) Nat.one_ne_zero),
      GatherDims.offCoord_eq_zero _ _ _ (fun h => ((GatherDims.mem_sKept _ _).1 h).1 (List.mem_singleton.2 rfl)), Nat.add_zero]
    unfold GatherDims.start
    rw [dif_pos (List.mem_singleton.2 rfl)]
    have hsi : GatherDims.siIdx (⟨[], [1], [0], [0], [1], 2, ss, wf⟩ : GatherDims (V2 N C) (V3 N 1) (V2 N 1)) (ix2 n 0)
        ⟨List.idxOf (1 : Fin 2) [1], List.idxOf_lt_length_iff.2 (List.mem_singleton.2 rfl)⟩ = ix3 n 0 0 := by
      funext b
      refine Fin.ext ?_
      match b with
      | ⟨0, _⟩ => rfl
      | ⟨1, _⟩ => rfl
      | ⟨2, _⟩ => rfl
    show min (idx (GatherDims.siIdx _ (ix2 n 0) _)).toInt.toNat (C - ss 1) = k.val
    rw [hsi, hk, hs1]
    omega

/-- The conjunction along an axis of length one is the bit there. -/
theorem all_one {N : Nat} (m : IVec (V3 N 1) 1) (init : V0.Idx → BitVec 1) (hi : ∀ z, init z = 1#1)
    (h : (V3 N 1).ReducesTo [2] (V2 N 1)) (hu : 0 < V0.numel) (n : Fin N) (hm : m (ix3 n 0 0) = 1#1) :
    Host.reduce IntOp.andi m init h hu (ix2 n 0) = 1#1 := by
  rw [Host.reduce_eq_foldl]
  refine IntOp.foldl_andi_one m _ _ (hi _) fun i hmem => ?_
  have e : h.drop i = ix2 n 0 := of_decide_eq_true (List.mem_filter.1 hmem).2
  have hv : (h.drop i 0 : Nat) = i 0 := Shape.ReducesTo.drop_apply_val h i 0
  have : i = ix3 n 0 0 := by
    funext b
    match b with
    | ⟨0, _⟩ => rw [e] at hv; exact Fin.ext hv.symm
    | ⟨1, _⟩ => exact Subsingleton.elim (α := Fin 1) _ _
    | ⟨2, _⟩ => exact Subsingleton.elim (α := Fin 1) _ _
  rw [this, hm]

end Cert.RefOps

end
-- ==== Proof.RefKnots.lean ====
/-
  The reference's knots and coefficients at a row: its two softmaxes, paddings and running sums give the thirteen knots
  and the eleven coefficients of the row's logits.
-/
module

public import proofs.«01_k».proof.Proof.Gen.ReferenceIdeal.Read
public import proofs.«01_k».proof.Proof.RefOps
public import proofs.«01_k».proof.Proof.Spline

@[expose] public section

noncomputable section

namespace Cert.ReferenceIdeal.Knots

open Idealize.ShloMosaic
open Cert.ReferenceIdeal Cert.ReferenceIdeal.Gen Cert.ReferenceIdeal.Read Cert.RefOps Cert.Spline

/-! ## Folds and sums over four and six -/

/-- The greatest of four, folded from the bottom. -/
theorem fold_four (f : Fin 4 → EReal) : max ⊥ ((Finset.univ : Finset (Fin 4)).fold max ⊥ f) = top4 f := by
  rw [max_eq_right bot_le]
  show Finset.univ.sup f = _
  unfold top4
  refine le_antisymm (Finset.sup_le fun k _ => ?_) ?_
  · fin_cases k <;> simp
  · exact max_le (max_le (Finset.le_sup (Finset.mem_univ 0)) (Finset.le_sup (Finset.mem_univ 1)))
      (max_le (Finset.le_sup (Finset.mem_univ 2)) (Finset.le_sup (Finset.mem_univ 3)))

/-- The greatest of six, folded from the bottom. -/
theorem fold_six (f : Fin 6 → EReal) : max ⊥ ((Finset.univ : Finset (Fin 6)).fold max ⊥ f) = top6 f := by
  rw [max_eq_right bot_le]
  show Finset.univ.sup f = _
  unfold top6
  refine le_antisymm (Finset.sup_le fun k _ => ?_) ?_
  · fin_cases k <;> simp
  · exact max_le (max_le (max_le (Finset.le_sup (Finset.mem_univ 0)) (Finset.le_sup (Finset.mem_univ 1)))
      (max_le (Finset.le_sup (Finset.mem_univ 2)) (Finset.le_sup (Finset.mem_univ 3))))
      (max_le (Finset.le_sup (Finset.mem_univ 4)) (Finset.le_sup (Finset.mem_univ 5)))

variable (x1 : S4194304x4.Idx → EReal) (x2 : S4194304x6.Idx → EReal) (n : Fin 4194304)

/-- The width logits of a row. -/
abbrev rowC : Fin 4 → EReal := fun k => x1 (ix2 n k)
/-- The coefficient logits of a row. -/
abbrev rowG : Fin 6 → EReal := fun k => x2 (ix2 n k)

/-! ## The widths -/

/-- The row's greatest width logit. -/
theorem v8_at : val_main_v8 (F := Ideal) x1 (ix1 n) = top4 (rowC x1 n) := by
  rw [← fold_four, val_main_v8_apply, val_main_v7_apply]
  unfold val_main_v6
  rw [show FloatOps.maximumf (F := Ideal) (φ := .f32) = max from rfl, ← lit_bot]
  exact congrArg (max _) (reduce_max x1 _ _ _ n)

/-- The exponentials of the row's shifted width logits. -/
theorem v12_at (k : Fin 4) : val_main_v12 (F := Ideal) x1 (ix2 n k) = exp4 (rowC x1 n) k := by
  rw [val_main_v12_apply, val_main_v11_apply, val_main_v10_apply, val_main_v9_apply,
    show idx_main_v9 (idx_main_v10 (ix2 n k)) = ix1 n from funext fun a => by fin_cases a; rfl, v8_at]
  rfl

/-- Their sum. -/
theorem v13_at : val_main_v13 (F := Ideal) x1 (ix1 n) = sum4 (rowC x1 n) := by
  have h : ∀ k : Fin 4, idx_main_v13 (ix1 n) k = ix2 n k := fun k => funext fun a => by fin_cases a <;> rfl
  rw [val_main_v13_apply, Fin.sum_univ_four, h, h, h, h, v12_at, v12_at, v12_at, v12_at,
    show val_main_cst_3 (F := Ideal) (Shape.Idx.first h_S_) = 0 from lit_zero]
  unfold sum4
  abel

/-- The widths of the row's four free bins. -/
theorem v22_at (k : Fin 4) : val_main_v22 (F := Ideal) x1 (ix2 n k) = width (rowC x1 n) k := by
  rw [val_main_v22_apply, val_main_v20_apply, val_main_v18_apply, val_main_v16_apply, val_main_v15_apply, val_main_v14_apply, v12_at,
    show idx_main_v14 (idx_main_v15 (ix2 n k)) = ix1 n from funext fun a => by fin_cases a; rfl, v13_at,
    val_main_v21_apply, val_main_v19_apply, val_main_v17_apply]
  show lit 0x3C23D70A#32 + lit 0x3F755555#32 * (Ideal.div (exp4 (rowC x1 n) k) (sum4 (rowC x1 n)) * lit 0x3F75C28F#32) = _
  unfold width
  rw [add_comm, mul_comm (lit 0x3F755555#32), mul_assoc, lit_scaleT]

/-- The twelve widths of a row, as a function of a natural number. -/
def widths (c : Fin 4 → EReal) (i : Nat) : EReal :=
  if h : 4 ≤ i ∧ i - 4 < 4 then width c ⟨i - 4, h.2⟩ else lit 0x3C23D70A#32

/-- The running sum of the row's twelve widths. -/
theorem v24_at (j : Fin 12) : val_main_v24 (F := Ideal) x1 (ix2 n j) = ∑ i ∈ Finset.range (j.val + 1), widths (rowC x1 n) i := by
  unfold val_main_v24
  refine running_sum (Wm1 := 11) _ _ (fun z => ?_) _ _ n (widths (rowC x1 n)) (fun k => ?_) j
  · exact lit_zero
  · unfold val_main_v23
    refine (pad_row _ _ _ _ n k).trans ?_
    unfold widths
    by_cases h : 4 ≤ k.val ∧ k.val - 4 < 4
    · rw [dif_pos h, dif_pos h]
      exact v22_at x1 n ⟨k.val - 4, h.2⟩
    · rw [dif_neg h, dif_neg h]
      rfl

/-- The thirteen knots before the shift. -/
theorem v25_at (j : Fin 13) : val_main_v25 (F := Ideal) x1 (ix2 n j) = ∑ i ∈ Finset.range j.val, widths (rowC x1 n) i := by
  unfold val_main_v25
  refine (pad_row _ _ _ _ n j).trans ?_
  by_cases h : 1 ≤ j.val
  · rw [dif_pos ⟨h, by omega⟩]
    refine (v24_at x1 n ⟨j.val - 1, by omega⟩).trans ?_
    rw [show j.val - 1 + 1 = j.val by omega]
  · rw [dif_neg fun q => h q.1, show j.val = 0 by omega, Finset.sum_range_zero]
    exact lit_zero

/-- A sum of bin widths. -/
theorem sum_bw (q : Nat) : ∑ _i ∈ Finset.range q, ((bwR : ℝ) : EReal) = ((q * bwR : ℝ) : EReal) := by
  induction q with
  | zero => simp
  | succ k ih =>
    rw [Finset.sum_range_succ, ih, ← EReal.coe_add]
    congr 1
    push_cast
    ring

/-- The sums of the first widths are multiples of the bin width. -/
theorem bw_sums : lit 0x3C23D70A#32 + lit 0x3C23D70A#32 = lit 0x3CA3D70A#32
    ∧ lit 0x3C23D70A#32 + lit 0x3C23D70A#32 + lit 0x3C23D70A#32 + lit 0x3C23D70A#32 = lit 0x3D23D70A#32 := by
  rw [lit_bw, lit_bw2, lit_bw4]
  constructor
  · norm_cast; ring
  · norm_cast; ring

/-- The thirteen knots. -/
theorem v27_at (j : Fin 13) : val_main_v27 (F := Ideal) x1 (ix2 n j) = knotT (rowC x1 n) j := by
  rw [val_main_v27_apply, v25_at, val_main_v26_apply]
  show (∑ i ∈ Finset.range j.val, widths (rowC x1 n) i) - lit 0x3CA3D70A#32 = _
  generalize rowC x1 n = c
  have hw : ∀ i (h : i < 4), widths c i = lit 0x3C23D70A#32 := fun i h => dif_neg fun q => absurd q.1 (by omega)
  have hw' : ∀ i (h : 8 ≤ i), widths c i = lit 0x3C23D70A#32 := fun i h => dif_neg fun q => absurd q.2 (by omega)
  have e0 := hw 0 (by omega); have e1 := hw 1 (by omega); have e2 := hw 2 (by omega); have e3 := hw 3 (by omega)
  have e4 : widths c 4 = width c 0 := rfl
  have e5 : widths c 5 = width c 1 := rfl
  have e6 : widths c 6 = width c 2 := rfl
  have e7 : widths c 7 = width c 3 := rfl
  have e8 := hw' 8 (by omega); have e9 := hw' 9 (by omega); have e10 := hw' 10 (by omega); have e11 := hw' 11 (by omega)
  have s4 : ∑ i ∈ Finset.range 4, widths c i = lit 0x3D23D70A#32 := by
    rw [← bw_sums.2]
    simp only [Finset.sum_range_succ, Finset.sum_range_zero, zero_add, e0, e1, e2, e3]
  have low : ∀ q : Nat, q ≤ 4 → ∑ i ∈ Finset.range q, widths c i = ((q * bwR : ℝ) : EReal) := fun q hq => by
    rw [Finset.sum_congr rfl fun i hi => (hw i (by have := Finset.mem_range.1 hi; omega)).trans lit_bw]
    exact sum_bw q
  fin_cases j
  · show (∑ i ∈ Finset.range 0, widths c i) - lit 0x3CA3D70A#32 = lit 0xBCA3D70A#32
    rw [low 0 (by omega), lit_bw2, lit_nbw2]; norm_cast; push_cast; ring
  · show (∑ i ∈ Finset.range 1, widths c i) - lit 0x3CA3D70A#32 = lit 0xBC23D70A#32
    rw [low 1 (by omega), lit_bw2, lit_nbw]; norm_cast; push_cast; ring
  · show (∑ i ∈ Finset.range 2, widths c i) - lit 0x3CA3D70A#32 = lit 0x00000000#32
    rw [low 2 (by omega), lit_bw2, lit_zero]; norm_cast; push_cast; ring
  · show (∑ i ∈ Finset.range 3, widths c i) - lit 0x3CA3D70A#32 = lit 0x3C23D70A#32
    rw [low 3 (by omega), lit_bw2, lit_bw]; norm_cast; push_cast; ring
  · show (∑ i ∈ Finset.range 4, widths c i) - lit 0x3CA3D70A#32 = lit 0x3CA3D70A#32
    rw [low 4 (by omega), lit_bw2]; norm_cast; push_cast; ring
  all_goals
    refine congrArg (· - lit 0x3CA3D70A#32) ?_
    simp only [Finset.sum_range_succ _ 4, Finset.sum_range_succ _ 5, Finset.sum_range_succ _ 6, Finset.sum_range_succ _ 7,
      Finset.sum_range_succ _ 8, Finset.sum_range_succ _ 9, Finset.sum_range_succ _ 10, Finset.sum_range_succ _ 11,
      s4, e4, e5, e6, e7, e8, e9, e10, e11]
    rfl

/-! ## The coefficients -/

/-- The row's greatest coefficient logit. -/
theorem v30_at : val_main_v30 (F := Ideal) x2 (ix1 n) = top6 (rowG x2 n) := by
  rw [← fold_six, val_main_v30_apply, val_main_v29_apply]
  unfold val_main_v28
  rw [show FloatOps.maximumf (F := Ideal) (φ := .f32) = max from rfl, ← lit_bot]
  exact congrArg (max _) (reduce_max x2 _ _ _ n)

/-- The exponentials of the row's shifted coefficient logits. -/
theorem v34_at (k : Fin 6) : val_main_v34 (F := Ideal) x2 (ix2 n k) = exp6 (rowG x2 n) k := by
  rw [val_main_v34_apply, val_main_v33_apply, val_main_v32_apply, val_main_v31_apply,
    show idx_main_v31 (idx_main_v32 (ix2 n k)) = ix1 n from funext fun a => by fin_cases a; rfl, v30_at]
  rfl

/-- Their sum. -/
theorem v35_at : val_main_v35 (F := Ideal) x2 (ix1 n) = sum6 (rowG x2 n) := by
  have h : ∀ k : Fin 6, idx_main_v35 (ix1 n) k = ix2 n k := fun k => funext fun a => by fin_cases a <;> rfl
  rw [val_main_v35_apply, Fin.sum_univ_six, h, h, h, h, h, h, v34_at, v34_at, v34_at, v34_at, v34_at, v34_at,
    show val_main_cst_12 (F := Ideal) (Shape.Idx.first h_S_) = 0 from lit_zero]
  unfold sum6
  abel

/-- The row's six free increments. -/
theorem v42_at (k : Fin 6) : val_main_v42 (F := Ideal) x2 (ix2 n k) = height (rowG x2 n) k := by
  rw [val_main_v42_apply, val_main_v40_apply, val_main_v38_apply, val_main_v37_apply, val_main_v36_apply, v34_at,
    show idx_main_v36 (idx_main_v37 (ix2 n k)) = ix1 n from funext fun a => by fin_cases a; rfl, v35_at,
    val_main_v41_apply, val_main_v39_apply]
  show lit 0x3C23D70A#32 + Ideal.div (exp6 (rowG x2 n) k) (sum6 (rowG x2 n)) * lit 0x3F6B8520#32 = _
  exact add_comm _ _

/-- The ten increments of a row, as a function of a natural number. -/
def heights (g : Fin 6 → EReal) (i : Nat) : EReal :=
  if h : 2 ≤ i ∧ i - 2 < 6 then height g ⟨i - 2, h.2⟩ else lit 0x3C23D70A#32

/-- The running sum of the row's ten increments. -/
theorem v44_at (j : Fin 10) : val_main_v44 (F := Ideal) x2 (ix2 n j) = ∑ i ∈ Finset.range (j.val + 1), heights (rowG x2 n) i := by
  unfold val_main_v44
  refine running_sum (Wm1 := 9) _ _ (fun z => ?_) _ _ n (heights (rowG x2 n)) (fun k => ?_) j
  · exact lit_zero
  · unfold val_main_v43
    refine (pad_row _ _ _ _ n k).trans ?_
    unfold heights
    by_cases h : 2 ≤ k.val ∧ k.val - 2 < 6
    · rw [dif_pos h, dif_pos h]
      exact v42_at x2 n ⟨k.val - 2, h.2⟩
    · rw [dif_neg h, dif_neg h]
      rfl

/-- The eleven coefficients before the shift. -/
theorem v45_at (j : Fin 11) : val_main_v45 (F := Ideal) x2 (ix2 n j) = ∑ i ∈ Finset.range j.val, heights (rowG x2 n) i := by
  unfold val_main_v45
  refine (pad_row _ _ _ _ n j).trans ?_
  by_cases h : 1 ≤ j.val
  · rw [dif_pos ⟨h, by omega⟩]
    refine (v44_at x2 n ⟨j.val - 1, by omega⟩).trans ?_
    rw [show j.val - 1 + 1 = j.val by omega]
  · rw [dif_neg fun q => h q.1, show j.val = 0 by omega, Finset.sum_range_zero]
    exact lit_zero

/-- The eleven coefficients. -/
theorem v47_at (j : Fin 11) : val_main_v47 (F := Ideal) x2 (ix2 n j) = knotA (rowG x2 n) j := by
  rw [val_main_v47_apply, v45_at, val_main_v46_apply]
  show (∑ i ∈ Finset.range j.val, heights (rowG x2 n) i) - lit 0x3C23D70A#32 = _
  generalize rowG x2 n = g
  have hw : ∀ i (h : i < 2), heights g i = lit 0x3C23D70A#32 := fun i h => dif_neg fun q => absurd q.1 (by omega)
  have hw' : ∀ i (h : 8 ≤ i), heights g i = lit 0x3C23D70A#32 := fun i h => dif_neg fun q => absurd q.2 (by omega)
  have e2 : heights g 2 = height g 0 := rfl
  have e3 : heights g 3 = height g 1 := rfl
  have e4 : heights g 4 = height g 2 := rfl
  have e5 : heights g 5 = height g 3 := rfl
  have e6 : heights g 6 = height g 4 := rfl
  have e7 : heights g 7 = height g 5 := rfl
  have e8 := hw' 8 (by omega); have e9 := hw' 9 (by omega)
  have s2 : ∑ i ∈ Finset.range 2, heights g i = lit 0x3CA3D70A#32 := by
    rw [← bw_sums.1]
    simp only [Finset.sum_range_succ, Finset.sum_range_zero, zero_add, hw 0 (by omega), hw 1 (by omega)]
  have low : ∀ q : Nat, q ≤ 2 → ∑ i ∈ Finset.range q, heights g i = ((q * bwR : ℝ) : EReal) := fun q hq => by
    rw [Finset.sum_congr rfl fun i hi => (hw i (by have := Finset.mem_range.1 hi; omega)).trans lit_bw]
    exact sum_bw q
  fin_cases j
  · show (∑ i ∈ Finset.range 0, heights g i) - lit 0x3C23D70A#32 = lit 0xBC23D70A#32
    rw [low 0 (by omega), lit_bw, lit_nbw]; norm_cast; push_cast; ring
  · show (∑ i ∈ Finset.range 1, heights g i) - lit 0x3C23D70A#32 = lit 0x00000000#32
    rw [low 1 (by omega), lit_bw, lit_zero]; norm_cast; push_cast; ring
  · show (∑ i ∈ Finset.range 2, heights g i) - lit 0x3C23D70A#32 = lit 0x3C23D70A#32
    rw [low 2 (by omega), lit_bw]; norm_cast; push_cast; ring
  all_goals
    refine congrArg (· - lit 0x3C23D70A#32) ?_
    simp only [Finset.sum_range_succ _ 2, Finset.sum_range_succ _ 3, Finset.sum_range_succ _ 4, Finset.sum_range_succ _ 5,
      Finset.sum_range_succ _ 6, Finset.sum_range_succ _ 7, Finset.sum_range_succ _ 8, Finset.sum_range_succ _ 9,
      s2, e2, e3, e4, e5, e6, e7, e8, e9]
    rfl

/-! ## Rolled, and nudged -/

/-- The eleven coefficients at an index given by its coordinates. -/
theorem v47_of (i : S4194304x11.Idx) (q : Fin 11) (h0 : (i 0).val = n.val) (h1 : (i 1).val = q.val) :
    val_main_v47 (F := Ideal) x2 i = knotA (rowG x2 n) q := by
  have e : i = ix2 n q := funext fun a => by
    fin_cases a
    · exact Fin.ext h0
    · exact Fin.ext h1
  rw [e]
  exact v47_at x2 n q

/-- The thirteen knots at an index given by its coordinates. -/
theorem v27_of (i : S4194304x13.Idx) (q : Fin 13) (h0 : (i 0).val = n.val) (h1 : (i 1).val = q.val) :
    val_main_v27 (F := Ideal) x1 i = knotT (rowC x1 n) q := by
  have e : i = ix2 n q := funext fun a => by
    fin_cases a
    · exact Fin.ext h0
    · exact Fin.ext h1
  rw [e]
  exact v27_at x1 n q

/-- The knots rolled two places. -/
theorem v49_at (k : Fin 13) :
    val_main_v49 (F := Ideal) x1 (ix2 n k) = knotT (rowC x1 n) ⟨(k.val + 2) % 13, Nat.mod_lt _ (by decide)⟩ := by
  unfold val_main_v49
  refine (join_row (t := 13) (a := 11) (b := 2) _ _ _ rfl n k).trans ?_
  by_cases h : k.val < 11
  · rw [dif_pos h, val_main_call6_v0_apply]
    exact v27_of x1 n _ _ rfl (by show 2 + k.val = (k.val + 2) % 13; omega)
  · rw [dif_neg h, val_main_call6_v1_apply]
    exact v27_of x1 n _ _ rfl (by show k.val - 11 = (k.val + 2) % 13; omega)

/-- The coefficients rolled three places. -/
theorem v50_at (k : Fin 11) :
    val_main_v50 (F := Ideal) x2 (ix2 n k) = knotA (rowG x2 n) ⟨(k.val + 3) % 11, Nat.mod_lt _ (by decide)⟩ := by
  unfold val_main_v50
  refine (join_row (t := 11) (a := 8) (b := 3) _ _ _ rfl n k).trans ?_
  by_cases h : k.val < 8
  · rw [dif_pos h, val_main_call7_v0_apply]
    exact v47_of x2 n _ _ rfl (by show 3 + k.val = (k.val + 3) % 11; omega)
  · rw [dif_neg h, val_main_call7_v1_apply]
    exact v47_of x2 n _ _ rfl (by show k.val - 8 = (k.val + 3) % 11; omega)

/-- The knots the bin search reads, the last one nudged up. -/
theorem v53_at (j : Fin 9) : val_main_v53 (F := Ideal) x1 (ix2 n j) = nudged (knotT (rowC x1 n)) j := by
  have h48 : ∀ j : Fin 9, val_main_v48 (F := Ideal) x1 (ix2 n j) = knotT (rowC x1 n) ⟨j.val + 2, by omega⟩ := fun j => by
    rw [val_main_v48_apply]
    exact v27_of x1 n _ _ rfl (by show 2 + j.val = j.val + 2; omega)
  have hcol : ((val_main_v51 (F := Ideal) : IVec S1 32) (ix1 0)).toInt = (((8 : Fin 9).val : ℕ) : Int) := by
    rw [val_main_v51_apply]
    show (8#32 : BitVec 32).toInt = 8
    decide
  have hval : (val_main_v52 (F := Ideal)) (ix1 n) = lit 0x358637BD#32 := by
    rw [val_main_v52_apply]
    rfl
  unfold val_main_v53
  refine (add_column (N := 4194304) (C := 9) scatter_S4194304x9_S1_S4194304_0_1_1_0 rfl rfl (val_main_v48 (F := Ideal) x1)
    (val_main_v51 (F := Ideal)) (val_main_v52 (F := Ideal)) 8 hcol n j).trans ?_
  unfold nudged
  by_cases hj : j = 8
  · rw [if_pos hj, if_pos hj, h48, hval, hj]
    rfl
  · rw [if_neg hj, if_neg hj, h48]

end Cert.ReferenceIdeal.Knots

end
-- ==== Proof.RefBin.lean ====
/-
  The reference's bin and its lookups at a row: the count of reached knots gives the bin, and the ten lookups around it
  give the knots and the coefficients of the bin's piece.
-/
module

public import proofs.«01_k».proof.Proof.RefKnots

@[expose] public section

noncomputable section

namespace Cert.ReferenceIdeal.Bin

open Idealize.ShloMosaic
open Cert.ReferenceIdeal Cert.ReferenceIdeal.Gen Cert.ReferenceIdeal.Read Cert.RefOps Cert.Spline Cert.ReferenceIdeal.Knots

/-! ## The words -/

/-- The remainder the reference takes of a word: the sign of the divisor, and one for a divisor of zero. -/
def wordRem (m x : BitVec 32) : BitVec 32 :=
  Scalar.select
    (IntOp.andi
      (IntOp.cmpi .ne (IntOp.cmpi .slt (IntOp.remsi .host x (Scalar.select (IntOp.cmpi .eq m 0#32) 1#32 m)) 0#32)
        (IntOp.cmpi .slt (Scalar.select (IntOp.cmpi .eq m 0#32) 1#32 m) 0#32))
      (IntOp.cmpi .ne (IntOp.remsi .host x (Scalar.select (IntOp.cmpi .eq m 0#32) 1#32 m)) 0#32))
    (IntOp.addi (IntOp.remsi .host x (Scalar.select (IntOp.cmpi .eq m 0#32) 1#32 m)) (Scalar.select (IntOp.cmpi .eq m 0#32) 1#32 m))
    (IntOp.remsi .host x (Scalar.select (IntOp.cmpi .eq m 0#32) 1#32 m))

/-- The same remainder in bit-vector terms, for a positive divisor. -/
theorem wordRem_eq (m x : BitVec 32) (hm : 0 < m.toInt) (h0 : m ≠ 0#32) :
    wordRem m x = if (x.srem m).slt 0#32 && (x.srem m != 0#32) then x.srem m + m else x.srem m := by
  have hs : Scalar.select (IntOp.cmpi .eq m 0#32) 1#32 m = m := by
    unfold Scalar.select
    rw [if_neg]
    show BitVec.ofBool (m == 0#32) ≠ 1#1
    rw [beq_eq_false_iff_ne.2 h0]
    decide
  unfold wordRem
  rw [hs, IntOp.remsi_of_pos .host hm]
  have hm' : m.slt 0#32 = false := by
    rw [BitVec.slt_eq_decide, decide_eq_false_iff_not]
    simp only [BitVec.toInt_zero]
    omega
  generalize x.srem m = r
  show (if BitVec.ofBool (BitVec.ofBool (r.slt 0#32) != BitVec.ofBool (m.slt 0#32)) &&& BitVec.ofBool (r != 0#32) = 1#1 then r + m else r) = _
  rw [hm']
  generalize r.slt 0#32 = p
  generalize (r != 0#32) = q
  revert p q
  generalize r + m = s
  intro p q
  cases p <;> cases q <;> rfl

/-- A bin less `k`, modulo `m`. -/
theorem wordRem_sub (i : Fin 8) :
    wordRem 11#32 (BitVec.ofNat 32 i.val - 1#32) = BitVec.ofNat 32 ((i.val + 10) % 11)
    ∧ wordRem 11#32 (BitVec.ofNat 32 i.val - 2#32) = BitVec.ofNat 32 ((i.val + 9) % 11)
    ∧ wordRem 11#32 (BitVec.ofNat 32 i.val - 3#32) = BitVec.ofNat 32 ((i.val + 8) % 11)
    ∧ wordRem 13#32 (BitVec.ofNat 32 i.val - 1#32) = BitVec.ofNat 32 ((i.val + 12) % 13)
    ∧ wordRem 13#32 (BitVec.ofNat 32 i.val - 2#32) = BitVec.ofNat 32 ((i.val + 11) % 13) := by
  rw [wordRem_eq 11#32 _ (by decide) (by decide), wordRem_eq 11#32 _ (by decide) (by decide), wordRem_eq 11#32 _ (by decide) (by decide),
    wordRem_eq 13#32 _ (by decide) (by decide), wordRem_eq 13#32 _ (by decide) (by decide)]
  revert i
  decide

/-- A count of at most nine, less one and held between zero and seven. -/
theorem word_clamp (q : Fin 10) :
    IntOp.minsi 7#32 (IntOp.maxsi 0#32 (IntOp.subi (BitVec.ofNat 32 q.val) 1#32)) = BitVec.ofNat 32 (min (q.val - 1) 7) := by
  revert q
  decide

/-! ## The lookup -/

/-- The reference's lookup of one entry of each row of a table: negative positions count from the end, and a position out
    of range gives not-a-number. -/
def takeAlong {C : Nat} (d : GatherDims (V2 4194304 C) S4194304x1x1 S4194304x1) (len last : BitVec 32)
    (table : (V2 4194304 C).Idx → EReal) (idx : IVec S4194304x1 32) : S4194304x1.Idx → EReal :=
  let pos : IVec S4194304x1x1 32 := shapeCast S4194304x1x1
    (fun i => Scalar.select (IntOp.cmpi .slt (idx i) 0#32) (IntOp.addi (idx i) len) (idx i) : IVec S4194304x1 32)
    shapeCasts_S4194304x1_S4194304x1x1
  fun i => Scalar.select
    (Host.reduce IntOp.andi (fun j => IntOp.andi (IntOp.cmpi .sge (pos j) 0#32) (IntOp.cmpi .sle (pos j) last) : IVec S4194304x1x1 1)
      (constantI S_ 1 1#1) reducesTo_S4194304x1x1_S4194304x1_d2 h_S_ i)
    (Host.gather d table pos i) (lit 0x7FC00000#32)

/-- The word tests of a lookup at a position in range. -/
theorem pos_word (q : Fin 13) (len last : BitVec 32) (hl : (13 = len.toNat ∧ last = 12#32) ∨ (11 = len.toNat ∧ last = 10#32 ∧ q.val < 11)) :
    Scalar.select (IntOp.cmpi .slt (BitVec.ofNat 32 q.val) 0#32) (IntOp.addi (BitVec.ofNat 32 q.val) len) (BitVec.ofNat 32 q.val)
        = BitVec.ofNat 32 q.val
    ∧ IntOp.andi (IntOp.cmpi .sge (BitVec.ofNat 32 q.val) 0#32) (IntOp.cmpi .sle (BitVec.ofNat 32 q.val) last) = 1#1
    ∧ (BitVec.ofNat 32 q.val).toInt = (q.val : Int) := by
  refine ⟨?_, ?_, ?_⟩
  · have : IntOp.cmpi .slt (BitVec.ofNat 32 q.val) 0#32 = 0#1 := by clear * -; revert q; decide
    rw [this]
    rfl
  · rcases hl with ⟨-, rfl⟩ | ⟨-, rfl, h⟩
    · clear * -
      revert q
      decide
    · clear * - h
      revert q
      decide
  · clear * -
    revert q
    decide

/-- A lookup at a position in range reads the table there. -/
theorem takeAlong_at {C : Nat} (d : GatherDims (V2 4194304 C) S4194304x1x1 S4194304x1) (hod : d.offsetDims = [])
    (hcd : d.collapsedSliceDims = [1]) (hob : d.operandBatchingDims = [0]) (hsb : d.startIndicesBatchingDims = [0])
    (hsm : d.startIndexMap = [1]) (hiv : d.indexVectorDim = 2) (len last : BitVec 32) (table : (V2 4194304 C).Idx → EReal)
    (idx : IVec S4194304x1 32) (n : Fin 4194304) (k : Fin C) (hk : idx (ix2 n 0) = BitVec.ofNat 32 k.val)
    (hC : (C = 13 ∧ len = 13#32 ∧ last = 12#32) ∨ (C = 11 ∧ len = 11#32 ∧ last = 10#32)) :
    takeAlong d len last table idx (ix2 n 0) = table (ix2 n k) := by
  have hk13 : k.val < 13 := by rcases hC with ⟨rfl, -⟩ | ⟨rfl, -⟩ <;> omega
  obtain ⟨w0, w1, w2⟩ := pos_word ⟨k.val, hk13⟩ len last (by
    rcases hC with ⟨rfl, rfl, rfl⟩ | ⟨rfl, rfl, rfl⟩
    · exact Or.inl ⟨rfl, rfl⟩
    · exact Or.inr ⟨rfl, rfl, k.isLt⟩)
  dsimp only at w0 w1 w2
  unfold takeAlong
  have hpos : shapeCast S4194304x1x1
      (fun i => Scalar.select (IntOp.cmpi .slt (idx i) 0#32) (IntOp.addi (idx i) len) (idx i) : IVec S4194304x1 32)
      shapeCasts_S4194304x1_S4194304x1x1 (ix3 n 0 0) = BitVec.ofNat 32 k.val := by
    rw [shapeCast_apply _ shapeCasts_S4194304x1_S4194304x1x1 (ix3 n 0 0) (ix2 n 0)
      (by rw [Shape.rowMajor_val_two, Shape.rowMajor_val_three]; show n.val * 1 + 0 = (n.val * 1 + 0) * 1 + 0; omega), hk]
    exact w0
  generalize shapeCast S4194304x1x1 _ shapeCasts_S4194304x1_S4194304x1x1 = pos at hpos
  dsimp only
  have hred := all_one (fun j => IntOp.andi (IntOp.cmpi .sge (pos j) 0#32) (IntOp.cmpi .sle (pos j) last) : IVec S4194304x1x1 1)
    (constantI S_ 1 1#1) (fun _ => rfl) reducesTo_S4194304x1x1_S4194304x1_d2 h_S_ n (by
      show IntOp.andi (IntOp.cmpi .sge (pos (ix3 n 0 0)) 0#32) (IntOp.cmpi .sle (pos (ix3 n 0 0)) last) = 1#1
      rw [hpos]
      exact w1)
  have hpick := pick_row d hod hcd hob hsb hsm hiv table pos n k (by rw [hpos]; exact w2)
  unfold Scalar.select
  exact (if_pos hred).trans hpick

/-! ## The bin -/

variable (x0 : S4194304.Idx → EReal) (x1 : S4194304x4.Idx → EReal) (x2 : S4194304x6.Idx → EReal) (n : Fin 4194304)

/-- The bin of a row. -/
abbrev rowBin : Fin 8 := countBin (knotT (rowC x1 n)) (x0 (ix1 n))

/-- Whether a row's input reaches a knot. -/
theorem v56_at (j : Fin 9) : val_main_v56 (F := Ideal) x0 x1 (ix2 n j) = reached (x0 (ix1 n)) (nudged (knotT (rowC x1 n)) j) := by
  rw [val_main_v56_apply, v53_at, val_main_v55_apply, val_main_v54_apply]
  refine congrArg (fun i => reached (x0 i) _) ?_
  funext a
  fin_cases a
  rfl

/-- The count of the knots a row's input reaches, as a word. -/
theorem v58_at : val_main_v58 (F := Ideal) x0 x1 (ix1 n) = BitVec.ofNat 32 (Spline.count (knotT (rowC x1 n)) (x0 (ix1 n))) := by
  unfold val_main_v58 val_main_v57 val_main_c_19
  refine (count_row (C := 9) (by decide) _ natLt_1_32 _ _ n).trans ?_
  unfold Spline.count
  simp only [v56_at]

/-- The bin of a row, as a word. -/
theorem v61_at : val_main_v61 (F := Ideal) x0 x1 (ix1 n) = BitVec.ofNat 32 (rowBin x0 x1 n).val := by
  rw [val_main_v61_apply, val_main_call8_v2_apply, val_main_v60_apply, v58_at]
  have hle : Spline.count (knotT (rowC x1 n)) (x0 (ix1 n)) < 10 :=
    Nat.lt_succ_of_le ((Finset.card_le_univ _).trans (by decide))
  exact word_clamp ⟨_, hle⟩

/-- The column of bins. -/
theorem v62_at : val_main_v62 (F := Ideal) x0 x1 (ix2 n 0) = BitVec.ofNat 32 (rowBin x0 x1 n).val := by
  rw [val_main_v62_apply, ← v61_at]
  refine congrArg (val_main_v61 (F := Ideal) x0 x1) ?_
  funext a
  fin_cases a
  rfl

/-- The lookup positions below the bin. -/
theorem below_at :
    val_main_v65 (F := Ideal) x0 x1 (ix2 n 0) = BitVec.ofNat 32 (((rowBin x0 x1 n).val + 10) % 11)
    ∧ val_main_v68 (F := Ideal) x0 x1 (ix2 n 0) = BitVec.ofNat 32 (((rowBin x0 x1 n).val + 9) % 11)
    ∧ val_main_v71 (F := Ideal) x0 x1 (ix2 n 0) = BitVec.ofNat 32 (((rowBin x0 x1 n).val + 8) % 11)
    ∧ val_main_v80 (F := Ideal) x0 x1 (ix2 n 0) = BitVec.ofNat 32 (((rowBin x0 x1 n).val + 12) % 13)
    ∧ val_main_v83 (F := Ideal) x0 x1 (ix2 n 0) = BitVec.ofNat 32 (((rowBin x0 x1 n).val + 11) % 13) := by
  have h := wordRem_sub (rowBin x0 x1 n)
  rw [← v62_at] at h
  exact h

/-- The lookup positions above the bin. -/
theorem above_at :
    val_main_v73 (F := Ideal) x0 x1 (ix2 n 0) = BitVec.ofNat 32 ((rowBin x0 x1 n).val + 3)
    ∧ val_main_v75 (F := Ideal) x0 x1 (ix2 n 0) = BitVec.ofNat 32 ((rowBin x0 x1 n).val + 2)
    ∧ val_main_v77 (F := Ideal) x0 x1 (ix2 n 0) = BitVec.ofNat 32 ((rowBin x0 x1 n).val + 1) := by
  rw [BitVec.ofNat_add, BitVec.ofNat_add, BitVec.ofNat_add, ← v62_at]
  exact ⟨rfl, rfl, rfl⟩

/-! ## The lookups -/

/-- The lookups are `takeAlong`. -/
theorem lookups :
    val_main_v84 (F := Ideal) x0 x1 x2
      = takeAlong gather_S4194304x11_S4194304x1x1_S4194304x1_n_1_0_0_1_2_11 11#32 10#32 (val_main_v50 (F := Ideal) x2) (val_main_v62 (F := Ideal) x0 x1)
    ∧ val_main_v86 (F := Ideal) x0 x1 x2
      = takeAlong gather_S4194304x11_S4194304x1x1_S4194304x1_n_1_0_0_1_2_11 11#32 10#32 (val_main_v50 (F := Ideal) x2) (val_main_v65 (F := Ideal) x0 x1)
    ∧ val_main_v88 (F := Ideal) x0 x1 x2
      = takeAlong gather_S4194304x11_S4194304x1x1_S4194304x1_n_1_0_0_1_2_11 11#32 10#32 (val_main_v50 (F := Ideal) x2) (val_main_v68 (F := Ideal) x0 x1)
    ∧ val_main_v90 (F := Ideal) x0 x1 x2
      = takeAlong gather_S4194304x11_S4194304x1x1_S4194304x1_n_1_0_0_1_2_11 11#32 10#32 (val_main_v50 (F := Ideal) x2) (val_main_v71 (F := Ideal) x0 x1) := by
  exact ⟨rfl, rfl, rfl, rfl⟩

/-- The knot lookups are `takeAlong`. -/
theorem knot_lookups :
    val_main_v92 (F := Ideal) x0 x1
      = takeAlong gather_S4194304x13_S4194304x1x1_S4194304x1_n_1_0_0_1_2_11 13#32 12#32 (val_main_v49 (F := Ideal) x1) (val_main_v73 (F := Ideal) x0 x1)
    ∧ val_main_v94 (F := Ideal) x0 x1
      = takeAlong gather_S4194304x13_S4194304x1x1_S4194304x1_n_1_0_0_1_2_11 13#32 12#32 (val_main_v49 (F := Ideal) x1) (val_main_v75 (F := Ideal) x0 x1)
    ∧ val_main_v96 (F := Ideal) x0 x1
      = takeAlong gather_S4194304x13_S4194304x1x1_S4194304x1_n_1_0_0_1_2_11 13#32 12#32 (val_main_v49 (F := Ideal) x1) (val_main_v77 (F := Ideal) x0 x1)
    ∧ val_main_v98 (F := Ideal) x0 x1
      = takeAlong gather_S4194304x13_S4194304x1x1_S4194304x1_n_1_0_0_1_2_11 13#32 12#32 (val_main_v49 (F := Ideal) x1) (val_main_v62 (F := Ideal) x0 x1)
    ∧ val_main_v100 (F := Ideal) x0 x1
      = takeAlong gather_S4194304x13_S4194304x1x1_S4194304x1_n_1_0_0_1_2_11 13#32 12#32 (val_main_v49 (F := Ideal) x1) (val_main_v80 (F := Ideal) x0 x1)
    ∧ val_main_v102 (F := Ideal) x0 x1
      = takeAlong gather_S4194304x13_S4194304x1x1_S4194304x1_n_1_0_0_1_2_11 13#32 12#32 (val_main_v49 (F := Ideal) x1) (val_main_v83 (F := Ideal) x0 x1) := by
  exact ⟨rfl, rfl, rfl, rfl, rfl, rfl⟩

/-- A coefficient lookup at position `q` reads the coefficient three places further on. -/
theorem coefficient (idx : IVec S4194304x1 32) (q : Nat) (hidx : idx (ix2 n 0) = BitVec.ofNat 32 q) (hq : q < 11) (k : Fin 11)
    (hk : (q + 3) % 11 = k.val) :
    takeAlong gather_S4194304x11_S4194304x1x1_S4194304x1_n_1_0_0_1_2_11 11#32 10#32 (val_main_v50 (F := Ideal) x2) idx (ix2 n 0)
      = knotA (rowG x2 n) k := by
  rw [takeAlong_at gather_S4194304x11_S4194304x1x1_S4194304x1_n_1_0_0_1_2_11 rfl rfl rfl rfl rfl rfl 11#32 10#32 (val_main_v50 (F := Ideal) x2) idx n
    ⟨q, hq⟩ hidx (Or.inr ⟨rfl, rfl, rfl⟩), v50_at]
  exact congrArg (knotA (rowG x2 n)) (Fin.ext hk)

/-- A knot lookup at position `q` reads the knot two places further on. -/
theorem knot (idx : IVec S4194304x1 32) (q : Nat) (hidx : idx (ix2 n 0) = BitVec.ofNat 32 q) (hq : q < 13) (k : Fin 13)
    (hk : (q + 2) % 13 = k.val) :
    takeAlong gather_S4194304x13_S4194304x1x1_S4194304x1_n_1_0_0_1_2_11 13#32 12#32 (val_main_v49 (F := Ideal) x1) idx (ix2 n 0)
      = knotT (rowC x1 n) k := by
  rw [takeAlong_at gather_S4194304x13_S4194304x1x1_S4194304x1_n_1_0_0_1_2_11 rfl rfl rfl rfl rfl rfl 13#32 12#32 (val_main_v49 (F := Ideal) x1) idx n
    ⟨q, hq⟩ hidx (Or.inl ⟨rfl, rfl, rfl⟩), v49_at]
  exact congrArg (knotT (rowC x1 n)) (Fin.ext hk)

/-- The piece of a row's bin. -/
abbrev rowPiece : Piece := Piece.mk' (knotT (rowC x1 n)) (knotA (rowG x2 n)) (rowBin x0 x1 n)

/-- A column's index of a row. -/
theorem col (i : S4194304x1.Idx) (h : (i 0).val = n.val) : i = ix2 n 0 := by
  funext a
  fin_cases a
  · exact Fin.ext h
  · exact Subsingleton.elim (α := Fin 1) _ _

/-- The four coefficients of the piece. -/
theorem coefficients_at :
    val_main_v85 (F := Ideal) x0 x1 x2 (ix1 n) = (rowPiece x0 x1 x2 n).km0
    ∧ val_main_v87 (F := Ideal) x0 x1 x2 (ix1 n) = (rowPiece x0 x1 x2 n).km1
    ∧ val_main_v89 (F := Ideal) x0 x1 x2 (ix1 n) = (rowPiece x0 x1 x2 n).km2
    ∧ val_main_v91 (F := Ideal) x0 x1 x2 (ix1 n) = (rowPiece x0 x1 x2 n).km3 := by
  obtain ⟨l0, l1, l2, l3⟩ := lookups x0 x1 x2
  obtain ⟨b1, b2, b3, -, -⟩ := below_at x0 x1 n
  rw [val_main_v85_apply, val_main_v87_apply, val_main_v89_apply, val_main_v91_apply, l0, l1, l2, l3,
    col n (idx_main_v85 (ix1 n)) (Nat.div_one _), col n (idx_main_v87 (ix1 n)) (Nat.div_one _),
    col n (idx_main_v89 (ix1 n)) (Nat.div_one _), col n (idx_main_v91 (ix1 n)) (Nat.div_one _)]
  have hb := (rowBin x0 x1 n).isLt
  let i := rowBin x0 x1 n
  change i.val < 8 at hb
  refine ⟨coefficient x2 n _ _ (v62_at x0 x1 n) (by omega) ⟨i.val + 3, by omega⟩ ?_,
    coefficient x2 n _ _ b1 (by omega) ⟨i.val + 2, by omega⟩ ?_,
    coefficient x2 n _ _ b2 (by omega) ⟨i.val + 1, by omega⟩ ?_,
    coefficient x2 n _ _ b3 (by omega) ⟨i.val, by omega⟩ ?_⟩
  · show (i.val + 3) % 11 = i.val + 3; omega
  · show ((i.val + 10) % 11 + 3) % 11 = i.val + 2; omega
  · show ((i.val + 9) % 11 + 3) % 11 = i.val + 1; omega
  · show ((i.val + 8) % 11 + 3) % 11 = i.val; omega

/-- The six knots of the piece. -/
theorem knots_at :
    val_main_v93 (F := Ideal) x0 x1 (ix1 n) = (rowPiece x0 x1 x2 n).t3
    ∧ val_main_v95 (F := Ideal) x0 x1 (ix1 n) = (rowPiece x0 x1 x2 n).t2
    ∧ val_main_v97 (F := Ideal) x0 x1 (ix1 n) = (rowPiece x0 x1 x2 n).t1
    ∧ val_main_v99 (F := Ideal) x0 x1 (ix1 n) = (rowPiece x0 x1 x2 n).t0
    ∧ val_main_v101 (F := Ideal) x0 x1 (ix1 n) = (rowPiece x0 x1 x2 n).tm1
    ∧ val_main_v103 (F := Ideal) x0 x1 (ix1 n) = (rowPiece x0 x1 x2 n).tm2 := by
  obtain ⟨l3, l2, l1, l0, m1, m2⟩ := knot_lookups x0 x1
  obtain ⟨-, -, -, b1, b2⟩ := below_at x0 x1 n
  obtain ⟨a3, a2, a1⟩ := above_at x0 x1 n
  rw [val_main_v93_apply, val_main_v95_apply, val_main_v97_apply, val_main_v99_apply, val_main_v101_apply, val_main_v103_apply,
    l3, l2, l1, l0, m1, m2,
    col n (idx_main_v93 (ix1 n)) (Nat.div_one _), col n (idx_main_v95 (ix1 n)) (Nat.div_one _),
    col n (idx_main_v97 (ix1 n)) (Nat.div_one _), col n (idx_main_v99 (ix1 n)) (Nat.div_one _),
    col n (idx_main_v101 (ix1 n)) (Nat.div_one _), col n (idx_main_v103 (ix1 n)) (Nat.div_one _)]
  have hb := (rowBin x0 x1 n).isLt
  let i := rowBin x0 x1 n
  change i.val < 8 at hb
  refine ⟨knot x1 n _ _ a3 (by omega) ⟨i.val + 5, by omega⟩ ?_, knot x1 n _ _ a2 (by omega) ⟨i.val + 4, by omega⟩ ?_, knot x1 n _ _ a1 (by omega) ⟨i.val + 3, by omega⟩ ?_,
    knot x1 n _ _ (v62_at x0 x1 n) (by omega) ⟨i.val + 2, by omega⟩ ?_, knot x1 n _ _ b1 (by omega) ⟨i.val + 1, by omega⟩ ?_, knot x1 n _ _ b2 (by omega) ⟨i.val, by omega⟩ ?_⟩
  · show (i.val + 3 + 2) % 13 = i.val + 5; omega
  · show (i.val + 2 + 2) % 13 = i.val + 4; omega
  · show (i.val + 1 + 2) % 13 = i.val + 3; omega
  · show (i.val + 2) % 13 = i.val + 2; omega
  · show ((i.val + 12) % 13 + 2) % 13 = i.val + 1; omega
  · show ((i.val + 11) % 13 + 2) % 13 = i.val; omega

end Cert.ReferenceIdeal.Bin

end
-- ==== Proof.RefValue.lean ====
/-
  What the reference computes: at every row the value and the logarithm of the slope of the specification that counts
  the reached knots.
-/
module

public import proofs.«01_k».proof.Proof.RefBin
public import proofs.«01_k».proof.Proof.Gen.ReferenceIdeal.Run

@[expose] public section

noncomputable section

namespace Cert.ReferenceIdeal.Rows

open Idealize.ShloMosaic
open Cert.ReferenceIdeal Cert.ReferenceIdeal.Gen Cert.ReferenceIdeal.Read Cert.Spline Cert.ReferenceIdeal.Knots Cert.ReferenceIdeal.Bin
open Cert.ReferenceIdeal.Value

set_option maxRecDepth 8192

/-- The arguments, as a run leaves them in its valuation. -/
abbrev arg0 (V0 : Valuation τ sig (Elt Ideal)) : S4194304.Idx → EReal := V0 (Proc.devRef .tc main_arg0)
/-- The width logits. -/
abbrev arg1 (V0 : Valuation τ sig (Elt Ideal)) : S4194304x4.Idx → EReal := V0 (Proc.devRef .tc main_arg1)
/-- The coefficient logits. -/
abbrev arg2 (V0 : Valuation τ sig (Elt Ideal)) : S4194304x6.Idx → EReal := V0 (Proc.devRef .tc main_arg2)

/-- The knots and coefficients the reference looked up for an element. -/
def looked (V0 : Valuation τ sig (Elt Ideal)) (i : S4194304.Idx) : Piece where
  tm2 := res_main_v103 V0 i
  tm1 := res_main_v101 V0 i
  t0 := res_main_v99 V0 i
  t1 := res_main_v97 V0 i
  t2 := res_main_v95 V0 i
  t3 := res_main_v93 V0 i
  km3 := res_main_v91 V0 i
  km2 := res_main_v89 V0 i
  km1 := res_main_v87 V0 i
  km0 := res_main_v85 V0 i

/-- They are the piece of the row's bin. -/
theorem looked_eq (V0 : Valuation τ sig (Elt Ideal)) (n : Fin 4194304) :
    looked V0 (ix1 n) = rowPiece (arg0 V0) (arg1 V0) (arg2 V0) n := by
  obtain ⟨k0, k1, k2, k3⟩ := coefficients_at (arg0 V0) (arg1 V0) (arg2 V0) n
  obtain ⟨t3, t2, t1, t0, m1, m2⟩ := knots_at (arg0 V0) (arg1 V0) (arg2 V0) n
  have e85 : res_main_v85 V0 = val_main_v85 (F := Ideal) (arg0 V0) (arg1 V0) (arg2 V0) := rfl
  have e87 : res_main_v87 V0 = val_main_v87 (F := Ideal) (arg0 V0) (arg1 V0) (arg2 V0) := rfl
  have e89 : res_main_v89 V0 = val_main_v89 (F := Ideal) (arg0 V0) (arg1 V0) (arg2 V0) := rfl
  have e91 : res_main_v91 V0 = val_main_v91 (F := Ideal) (arg0 V0) (arg1 V0) (arg2 V0) := rfl
  have e93 : res_main_v93 V0 = val_main_v93 (F := Ideal) (arg0 V0) (arg1 V0) := rfl
  have e95 : res_main_v95 V0 = val_main_v95 (F := Ideal) (arg0 V0) (arg1 V0) := rfl
  have e97 : res_main_v97 V0 = val_main_v97 (F := Ideal) (arg0 V0) (arg1 V0) := rfl
  have e99 : res_main_v99 V0 = val_main_v99 (F := Ideal) (arg0 V0) (arg1 V0) := rfl
  have e101 : res_main_v101 V0 = val_main_v101 (F := Ideal) (arg0 V0) (arg1 V0) := rfl
  have e103 : res_main_v103 V0 = val_main_v103 (F := Ideal) (arg0 V0) (arg1 V0) := rfl
  unfold looked
  rw [e85, e87, e89, e91, e93, e95, e97, e99, e101, e103, k0, k1, k2, k3, t3, t2, t1, t0, m1, m2]

/-! ## The operations at an element -/

section ops
variable (x y : FVec Ideal S4194304 .f32) (i : S4194304.Idx)

/-- A sum at an element. -/
theorem add_at : addf x y i = (x i + y i : EReal) := (rfl)
/-- A difference at an element. -/
theorem sub_at : subf x y i = (x i - y i : EReal) := (rfl)
/-- A product at an element. -/
theorem mul_at : mulf x y i = (x i * y i : EReal) := (rfl)
/-- A quotient at an element. -/
theorem div_at : Host.divf x y i = Ideal.div (x i) (y i) := (rfl)
/-- A negation at an element. -/
theorem neg_at : Host.negf x i = (-x i : EReal) := (rfl)
/-- A constant at an element. -/
theorem const_at (dims : Fin S_.rank → Fin S4194304.rank) (h : S_.BroadcastsInDim S4194304 dims) (b : BitVec 32) :
    broadcastInDim S4194304 dims h (constant (F := Ideal) S_ .f32 b) i = lit b := (rfl)
/-- A choice at an element. -/
theorem choice_at (g : IVec S4194304 1) : select g x y i = Scalar.select (g i) (x i) (y i) := (rfl)
/-- A logarithm at an element. -/
theorem log_at : Host.log x i = Ideal.log (x i) := (rfl)
/-- An absolute value at an element. -/
theorem abs_at : Host.absf x i = (max (x i) (-x i) : EReal) := (rfl)

end ops

/-- The cubic coefficient. -/
theorem a_at (V0 : Valuation τ sig (Elt Ideal)) (i : S4194304.Idx) : res_main_v170 V0 i = (looked V0 i).a := by
  unfold res_main_v170 looked Piece.a Piece.den0 Piece.den1 Piece.den2 Piece.den3 Piece.den4 Piece.den5 Piece.den6
  simp only [add_at, sub_at, mul_at, div_at, const_at]

/-- The quadratic coefficient. -/
theorem b_at (V0 : Valuation τ sig (Elt Ideal)) (i : S4194304.Idx) : res_main_v250 V0 i = (looked V0 i).b := by
  unfold res_main_v250 looked Piece.b Piece.weigh Piece.den0 Piece.den1 Piece.den2 Piece.den3 Piece.den4 Piece.den5 Piece.den6
  simp only [add_at, sub_at, mul_at, div_at, neg_at, const_at]

/-- The linear coefficient. -/
theorem c_at (V0 : Valuation τ sig (Elt Ideal)) (i : S4194304.Idx) : res_main_v348 V0 i = (looked V0 i).c := by
  unfold res_main_v348 looked Piece.c Piece.cWith Piece.weigh Piece.den0 Piece.den1 Piece.den2 Piece.den3 Piece.den4 Piece.den5 Piece.den6
  simp only [add_at, sub_at, mul_at, div_at, neg_at, const_at]

/-- The first result in terms of the looked up piece. -/
theorem first (V0 : Valuation τ sig (Elt Ideal)) (i : S4194304.Idx) :
    val_main_v444 (F := Ideal) (arg0 V0) (arg1 V0) (arg2 V0) i
      = Scalar.select (res_main_v5 V0 i)
          (poly (looked V0 i).a (looked V0 i).b (looked V0 i).c (looked V0 i).d (arg0 V0 i)) (arg0 V0 i) := by
  rw [← val_main_v444_eq V0]
  rw [← a_at, ← b_at, ← c_at]
  unfold looked poly Piece.d Piece.den0 Piece.den1 Piece.den2 Piece.den3 Piece.den4 Piece.den5 Piece.den6
  simp only [add_at, sub_at, mul_at, div_at, neg_at, const_at, choice_at]

/-- The second result in terms of the looked up piece. -/
theorem second (V0 : Valuation τ sig (Elt Ideal)) (i : S4194304.Idx) :
    val_main_v445 (F := Ideal) (arg0 V0) (arg1 V0) (arg2 V0) i
      = Scalar.select (res_main_v5 V0 i)
          (Spline.slope (looked V0 i).a (looked V0 i).b (looked V0 i).c (arg0 V0 i)) (lit 0x00000000#32) := by
  rw [← val_main_v445_eq V0]
  rw [← a_at, ← b_at, ← c_at]
  unfold Spline.slope
  simp only [add_at, mul_at, const_at, choice_at, log_at, abs_at, id]

/-- The reference's mask, "not (at most zero or at least one)", is the mask "above zero and below one". -/
theorem mask_at (V0 : Valuation τ sig (Elt Ideal)) (i : S4194304.Idx) : res_main_v5 V0 i = inside (arg0 V0 i) := by
  have h : res_main_v5 V0 i
      = ~~~(BitVec.ofBool (decide (arg0 V0 i ≤ lit 0x00000000#32)) ||| BitVec.ofBool (decide (lit 0x3F800000#32 ≤ arg0 V0 i))) := rfl
  rw [h]
  show _ = BitVec.ofBool (decide (lit 0x00000000#32 < arg0 V0 i)) &&& BitVec.ofBool (decide (arg0 V0 i < lit 0x3F800000#32))
  simp only [← not_le, decide_not]
  generalize decide (arg0 V0 i ≤ lit 0x00000000#32) = p
  generalize decide (lit 0x3F800000#32 ≤ arg0 V0 i) = q
  revert p q
  decide

/-- The reference's first result at a row. -/
theorem out_at (V0 : Valuation τ sig (Elt Ideal)) (n : Fin 4194304) :
    val_main_v444 (F := Ideal) (arg0 V0) (arg1 V0) (arg2 V0) (ix1 n)
      = outCount (arg0 V0 (ix1 n)) (rowC (arg1 V0) n) (rowG (arg2 V0) n) := by
  rw [first, looked_eq, mask_at]
  rfl

/-- The reference's second result at a row. -/
theorem lad_at (V0 : Valuation τ sig (Elt Ideal)) (n : Fin 4194304) :
    val_main_v445 (F := Ideal) (arg0 V0) (arg1 V0) (arg2 V0) (ix1 n)
      = ladCount (arg0 V0 (ix1 n)) (rowC (arg1 V0) n) (rowG (arg2 V0) n) := by
  rw [second, looked_eq, mask_at]
  rfl

end Cert.ReferenceIdeal.Rows

end
-- ==== Proof.Claims.lean ====
/-
  The claims: each program runs, leaves its arguments unchanged and its counters at zero; the named constant rounds to
  the literal it stands for; and the kernel and the reference end with the same two results.
-/
module

public import proofs.«01_k».proof.Defs
public import proofs.«01_k».proof.Proof.Gen.Kernel.Frame
public import proofs.«01_k».proof.Proof.Gen.KernelIdeal.Frame
public import proofs.«01_k».proof.Proof.KernelValue
public import proofs.«01_k».proof.Proof.SplineEq
public import proofs.«01_k».proof.Proof.RefValue
public import Idealize.ShloMosaic.Lib.Quiescent
public import Idealize.ShloMosaic.Lib.Claim

@[expose] public section

noncomputable section

namespace Cert.Proof

open Idealize.ShloMosaic Idealize.SL.Sem Cert.Spline

/-- The kernel runs, its arguments end unchanged and every counter ends at zero. -/
theorem frame_kernel : Cert.quiescent_Kernel := fun m ρ _ => Cert.Kernel.Gen.frame m ρ

/-- The kernel over the reals does too. -/
theorem frame_ideal : Cert.quiescent_KernelIdeal := fun m ρ _ => Cert.KernelIdeal.Gen.frame m ρ

/-- The reference does too; it has no counters. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The named scale of the widths rounds to the literal it stands for. -/
theorem scale_named : Cert.preserves_Kernel_KernelIdeal :=
  IdealRules.named_const.statement Cert.KernelIdeal.κ "dt_scale" .f32 0x3F6B851E#32
    ((258956967416955 / 281474976710656 : ℝ) : EReal) rfl

/-- An index of a one-dimensional array is its coordinate's. -/
theorem idx_eta (i : Cert.ReferenceIdeal.S4194304.Idx) : ∃ n : Fin 4194304, i = ix1 n :=
  ⟨i 0, funext fun a => by obtain rfl : a = 0 := Subsingleton.elim _ _; rfl⟩

/-- The reference's first result is the kernel's. -/
theorem out_all (V0 : Valuation Cert.ReferenceIdeal.τ Cert.ReferenceIdeal.sig (Elt Ideal)) :
    Cert.ReferenceIdeal.Read.val_main_v444 (F := Ideal) (Cert.ReferenceIdeal.Rows.arg0 V0) (Cert.ReferenceIdeal.Rows.arg1 V0)
        (Cert.ReferenceIdeal.Rows.arg2 V0)
      = Cert.KernelIdeal.Whole.outOf (Cert.ReferenceIdeal.Rows.arg0 V0) (Cert.ReferenceIdeal.Rows.arg1 V0)
          (Cert.ReferenceIdeal.Rows.arg2 V0) := by
  funext i
  obtain ⟨n, rfl⟩ := idx_eta i
  exact (Cert.ReferenceIdeal.Rows.out_at V0 n).trans (out_eq _ _ _).symm

/-- The reference's second result is the kernel's. -/
theorem lad_all (V0 : Valuation Cert.ReferenceIdeal.τ Cert.ReferenceIdeal.sig (Elt Ideal)) :
    Cert.ReferenceIdeal.Read.val_main_v445 (F := Ideal) (Cert.ReferenceIdeal.Rows.arg0 V0) (Cert.ReferenceIdeal.Rows.arg1 V0)
        (Cert.ReferenceIdeal.Rows.arg2 V0)
      = Cert.KernelIdeal.Whole.ladOf (Cert.ReferenceIdeal.Rows.arg0 V0) (Cert.ReferenceIdeal.Rows.arg1 V0)
          (Cert.ReferenceIdeal.Rows.arg2 V0) := by
  funext i
  obtain ⟨n, rfl⟩ := idx_eta i
  exact (Cert.ReferenceIdeal.Rows.lad_at V0 n).trans (lad_eq _ _ _).symm

/-- From memories that agree on the arguments, the kernel and the reference end with the same two results. -/
theorem same_results : Cert.algebraic_KernelIdeal_ReferenceIdeal := by
  intro m ρ m' ρ' _ hagree
  refine ⟨_, _, Cert.KernelIdeal.Whole.run m ρ, (θ_run Cert.ReferenceIdeal.defs _ _).mono (fun r h c => ?_)
    (Cert.ReferenceIdeal.Value.run (F := Ideal) m' ρ')⟩
  obtain ⟨a0, a1, a2⟩ := hagree c
  obtain ⟨h0, h1, hargs⟩ := h c
  rw [← a0, ← a1, ← a2]
  refine ⟨?_, ?_, hargs⟩
  · exact h0.trans ((Cert.ReferenceIdeal.Read.val_main_v444_eq _).trans (out_all (StableHlo.launchContents m' c)))
  · exact h1.trans ((Cert.ReferenceIdeal.Read.val_main_v445_eq _).trans (lad_all (StableHlo.launchContents m' c)))

end Cert.Proof

end
-- ==== Proof.lean ====
/-
  The proof of `Cert.Claim`: the facts of the three programs, then the five claims in order, each proved in
  `Proof/Claims.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims

@[expose] public section

noncomputable section

namespace Cert.Proof

/-- The kernel, the kernel over the reals and the reference run and leave their arguments and counters as they were; the
    named constant rounds to its literal; the kernel over the reals and the reference have the same two results. -/
theorem claim : Cert.Claim :=
  ⟨Cert.Kernel.Gen.facts, Cert.KernelIdeal.Gen.facts, Cert.ReferenceIdeal.Gen.facts,
    frame_kernel, frame_ideal, frame_reference, scale_named, same_results⟩

end Cert.Proof

end
